-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v188)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v188) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x96x512x512 : Shape := ⟨4, ![2, 96, 512, 512]⟩
abbrev S1x1x7x7 : Shape := ⟨4, ![1, 1, 7, 7]⟩
abbrev S1 : Shape := ⟨1, ![1]⟩
abbrev S6x96 : Shape := ⟨2, ![6, 96]⟩
abbrev S6 : Shape := ⟨1, ![6]⟩
abbrev S96x6 : Shape := ⟨2, ![96, 6]⟩
abbrev S96 : Shape := ⟨1, ![96]⟩
abbrev S_ : Shape := ⟨0, ![]⟩
abbrev S2x512x512 : Shape := ⟨3, ![2, 512, 512]⟩
abbrev S2x32x16x32x16 : Shape := ⟨5, ![2, 32, 16, 32, 16]⟩
abbrev S2x32x32x16x16 : Shape := ⟨5, ![2, 32, 32, 16, 16]⟩
abbrev S2048x1x16x16 : Shape := ⟨4, ![2048, 1, 16, 16]⟩
abbrev S2048x16x16 : Shape := ⟨3, ![2048, 16, 16]⟩
abbrev S2048x22x22 : Shape := ⟨3, ![2048, 22, 22]⟩
abbrev S2048x16x22 : Shape := ⟨3, ![2048, 16, 22]⟩
abbrev S2048x1x16x22 : Shape := ⟨4, ![2048, 1, 16, 22]⟩
abbrev S2048x7x16x22 : Shape := ⟨4, ![2048, 7, 16, 22]⟩
abbrev S2048x7x16x16 : Shape := ⟨4, ![2048, 7, 16, 16]⟩
abbrev S2048x7x1x16x16 : Shape := ⟨5, ![2048, 7, 1, 16, 16]⟩
abbrev S2048x7x7x16x16 : Shape := ⟨5, ![2048, 7, 7, 16, 16]⟩
abbrev S7x7 : Shape := ⟨2, ![7, 7]⟩
abbrev S1x1x1x1 : Shape := ⟨4, ![1, 1, 1, 1]⟩
abbrev S2048x256 : Shape := ⟨2, ![2048, 256]⟩
abbrev S2048 : Shape := ⟨1, ![2048]⟩
abbrev S2048x1 : Shape := ⟨2, ![2048, 1]⟩
abbrev S2x96x32x16x32x16 : Shape := ⟨6, ![2, 96, 32, 16, 32, 16]⟩
abbrev S2x96x32x32x16 : Shape := ⟨5, ![2, 96, 32, 32, 16]⟩
abbrev S2x96x32x32 : Shape := ⟨4, ![2, 96, 32, 32]⟩
abbrev S2x32x32x96 : Shape := ⟨4, ![2, 32, 32, 96]⟩
abbrev S2048x96 : Shape := ⟨2, ![2048, 96]⟩
abbrev S2048x6 : Shape := ⟨2, ![2048, 6]⟩
abbrev S1x6 : Shape := ⟨2, ![1, 6]⟩
abbrev S1x96 : Shape := ⟨2, ![1, 96]⟩
abbrev S2x1024 : Shape := ⟨2, ![2, 1024]⟩
abbrev S1024x2 : Shape := ⟨2, ![1024, 2]⟩
abbrev S1024x1024 : Shape := ⟨2, ![1024, 1024]⟩
abbrev S1x1024 : Shape := ⟨2, ![1, 1024]⟩
abbrev S1024x1 : Shape := ⟨2, ![1024, 1]⟩
abbrev S1024 : Shape := ⟨1, ![1024]⟩
abbrev S2x32x32 : Shape := ⟨3, ![2, 32, 32]⟩
abbrev S2x32x32x16 : Shape := ⟨4, ![2, 32, 32, 16]⟩
abbrev S2x32x512 : Shape := ⟨3, ![2, 32, 512]⟩
abbrev S2x32x1x512 : Shape := ⟨4, ![2, 32, 1, 512]⟩
abbrev S1x1x1x512 : Shape := ⟨4, ![1, 1, 1, 512]⟩
abbrev S1x96x16x512 : Shape := ⟨4, ![1, 96, 16, 512]⟩

abbrev nBuf : Space → Nat
  | .hbm => 237
  | .vmem => 7
  | .smem => 0
  | _ => 0

abbrev hbmTy0_0 (i : Nat) : BufTy := match i % 128 with
  | 0 => ⟨S2x96x512x512, .f32⟩
  | 1 => ⟨S1x1x7x7, .f32⟩
  | 2 => ⟨S1, .f32⟩
  | 3 => ⟨S1, .f32⟩
  | 4 => ⟨S1, .f32⟩
  | 5 => ⟨S1x1x7x7, .f32⟩
  | 6 => ⟨S1, .f32⟩
  | 7 => ⟨S6x96, .f32⟩
  | 8 => ⟨S6, .f32⟩
  | 9 => ⟨S96x6, .f32⟩
  | 10 => ⟨S96, .f32⟩
  | 11 => ⟨S2x96x512x512, .f32⟩
  | 12 => ⟨S_, .f32⟩
  | 13 => ⟨S2x512x512, .f32⟩
  | 14 => ⟨S_, .f32⟩
  | 15 => ⟨S2x512x512, .f32⟩
  | 16 => ⟨S2x512x512, .f32⟩
  | 17 => ⟨S2x32x16x32x16, .f32⟩
  | 18 => ⟨S2x32x32x16x16, .f32⟩
  | 19 => ⟨S2048x1x16x16, .f32⟩
  | 20 => ⟨S_, .f32⟩
  | 21 => ⟨S_, .f32⟩
  | 22 => ⟨S2048x1x16x16, .f32⟩
  | 23 => ⟨S2048x1x16x16, .f32⟩
  | 24 => ⟨S2048x16x16, .f32⟩
  | 25 => ⟨S_, .i32⟩
  | 26 => ⟨S_, .f32⟩
  | 27 => ⟨S2048x22x22, .f32⟩
  | 28 => ⟨S2048x16x22, .f32⟩
  | 29 => ⟨S2048x16x22, .f32⟩
  | 30 => ⟨S2048x16x22, .f32⟩
  | 31 => ⟨S2048x16x22, .f32⟩
  | 32 => ⟨S2048x16x22, .f32⟩
  | 33 => ⟨S2048x16x22, .f32⟩
  | 34 => ⟨S2048x16x22, .f32⟩
  | 35 => ⟨S2048x1x16x22, .f32⟩
  | 36 => ⟨S2048x1x16x22, .f32⟩
  | 37 => ⟨S2048x1x16x22, .f32⟩
  | 38 => ⟨S2048x1x16x22, .f32⟩
  | 39 => ⟨S2048x1x16x22, .f32⟩
  | 40 => ⟨S2048x1x16x22, .f32⟩
  | 41 => ⟨S2048x1x16x22, .f32⟩
  | 42 => ⟨S2048x7x16x22, .f32⟩
  | 43 => ⟨S2048x7x16x16, .f32⟩
  | 44 => ⟨S2048x7x16x16, .f32⟩
  | 45 => ⟨S2048x7x16x16, .f32⟩
  | 46 => ⟨S2048x7x16x16, .f32⟩
  | 47 => ⟨S2048x7x16x16, .f32⟩
  | 48 => ⟨S2048x7x16x16, .f32⟩
  | 49 => ⟨S2048x7x16x16, .f32⟩
  | 50 => ⟨S2048x7x1x16x16, .f32⟩
  | 51 => ⟨S2048x7x1x16x16, .f32⟩
  | 52 => ⟨S2048x7x1x16x16, .f32⟩
  | 53 => ⟨S2048x7x1x16x16, .f32⟩
  | 54 => ⟨S2048x7x1x16x16, .f32⟩
  | 55 => ⟨S2048x7x1x16x16, .f32⟩
  | 56 => ⟨S2048x7x1x16x16, .f32⟩
  | 57 => ⟨S2048x7x7x16x16, .f32⟩
  | 58 => ⟨S7x7, .f32⟩
  | 59 => ⟨S2048x16x16, .f32⟩
  | 60 => ⟨S2048x1x16x16, .f32⟩
  | 61 => ⟨S1x1x1x1, .f32⟩
  | 62 => ⟨S2048x1x16x16, .f32⟩
  | 63 => ⟨S2048x1x16x16, .f32⟩
  | 64 => ⟨S_, .f32⟩
  | 65 => ⟨S2048x1x16x16, .f32⟩
  | 66 => ⟨S2048x1x16x16, .f32⟩
  | 67 => ⟨S_, .f32⟩
  | 68 => ⟨S_, .f32⟩
  | 69 => ⟨S_, .f32⟩
  | 70 => ⟨S2048x1x16x16, .f32⟩
  | 71 => ⟨S2048x1x16x16, .f32⟩
  | 72 => ⟨S1x1x1x1, .f32⟩
  | 73 => ⟨S2048x1x16x16, .f32⟩
  | 74 => ⟨S2048x1x16x16, .f32⟩
  | 75 => ⟨S1x1x1x1, .f32⟩
  | 76 => ⟨S2048x1x16x16, .f32⟩
  | 77 => ⟨S2048x1x16x16, .f32⟩
  | 78 => ⟨S_, .f32⟩
  | 79 => ⟨S2048x1x16x16, .f32⟩
  | 80 => ⟨S2048x1x16x16, .f32⟩
  | 81 => ⟨S2048x16x16, .f32⟩
  | 82 => ⟨S_, .i32⟩
  | 83 => ⟨S_, .f32⟩
  | 84 => ⟨S2048x22x22, .f32⟩
  | 85 => ⟨S2048x16x22, .f32⟩
  | 86 => ⟨S2048x16x22, .f32⟩
  | 87 => ⟨S2048x16x22, .f32⟩
  | 88 => ⟨S2048x16x22, .f32⟩
  | 89 => ⟨S2048x16x22, .f32⟩
  | 90 => ⟨S2048x16x22, .f32⟩
  | 91 => ⟨S2048x16x22, .f32⟩
  | 92 => ⟨S2048x1x16x22, .f32⟩
  | 93 => ⟨S2048x1x16x22, .f32⟩
  | 94 => ⟨S2048x1x16x22, .f32⟩
  | 95 => ⟨S2048x1x16x22, .f32⟩
  | 96 => ⟨S2048x1x16x22, .f32⟩
  | 97 => ⟨S2048x1x16x22, .f32⟩
  | 98 => ⟨S2048x1x16x22, .f32⟩
  | 99 => ⟨S2048x7x16x22, .f32⟩
  | 100 => ⟨S2048x7x16x16, .f32⟩
  | 101 => ⟨S2048x7x16x16, .f32⟩
  | 102 => ⟨S2048x7x16x16, .f32⟩
  | 103 => ⟨S2048x7x16x16, .f32⟩
  | 104 => ⟨S2048x7x16x16, .f32⟩
  | 105 => ⟨S2048x7x16x16, .f32⟩
  | 106 => ⟨S2048x7x16x16, .f32⟩
  | 107 => ⟨S2048x7x1x16x16, .f32⟩
  | 108 => ⟨S2048x7x1x16x16, .f32⟩
  | 109 => ⟨S2048x7x1x16x16, .f32⟩
  | 110 => ⟨S2048x7x1x16x16, .f32⟩
  | 111 => ⟨S2048x7x1x16x16, .f32⟩
  | 112 => ⟨S2048x7x1x16x16, .f32⟩
  | 113 => ⟨S2048x7x1x16x16, .f32⟩
  | 114 => ⟨S2048x7x7x16x16, .f32⟩
  | 115 => ⟨S7x7, .f32⟩
  | 116 => ⟨S2048x16x16, .f32⟩
  | 117 => ⟨S2048x1x16x16, .f32⟩
  | 118 => ⟨S1x1x1x1, .f32⟩
  | 119 => ⟨S2048x1x16x16, .f32⟩
  | 120 => ⟨S2048x1x16x16, .f32⟩
  | 121 => ⟨S2048x1x16x16, .f32⟩
  | 122 => ⟨S2048x1x16x16, .f32⟩
  | 123 => ⟨S_, .f32⟩
  | 124 => ⟨S2048x1x16x16, .f32⟩
  | 125 => ⟨S2048x1x16x16, .f32⟩
  | 126 => ⟨S_, .f32⟩
  | 127 => ⟨S2048x1x16x16, .f32⟩
  | _ => ⟨S2x96x512x512, .f32⟩

abbrev hbmTy0_1 (i : Nat) : BufTy := match i % 128 with
  | 0 => ⟨S2048x1x16x16, .f32⟩
  | 1 => ⟨S2048x1x16x16, .f32⟩
  | 2 => ⟨S_, .f32⟩
  | 3 => ⟨S2048x1x16x16, .f32⟩
  | 4 => ⟨S2048x1x16x16, .f32⟩
  | 5 => ⟨S2048x256, .f32⟩
  | 6 => ⟨S_, .f32⟩
  | 7 => ⟨S2048, .f32⟩
  | 8 => ⟨S_, .f32⟩
  | 9 => ⟨S2048, .f32⟩
  | 10 => ⟨S2048, .f32⟩
  | 11 => ⟨S2048x1, .f32⟩
  | 12 => ⟨S2048x256, .f32⟩
  | 13 => ⟨S2048x256, .f32⟩
  | 14 => ⟨S2048x256, .f32⟩
  | 15 => ⟨S_, .f32⟩
  | 16 => ⟨S2048, .f32⟩
  | 17 => ⟨S2048x1, .f32⟩
  | 18 => ⟨S2048x256, .f32⟩
  | 19 => ⟨S2048x256, .f32⟩
  | 20 => ⟨S_, .f32⟩
  | 21 => ⟨S2048x256, .f32⟩
  | 22 => ⟨S2048x256, .f32⟩
  | 23 => ⟨S2048x16x16, .f32⟩
  | 24 => ⟨S2x96x512x512, .f32⟩
  | 25 => ⟨S2x96x512x512, .f32⟩
  | 26 => ⟨S2x96x32x16x32x16, .f32⟩
  | 27 => ⟨S_, .f32⟩
  | 28 => ⟨S2x96x32x32x16, .f32⟩
  | 29 => ⟨S_, .f32⟩
  | 30 => ⟨S2x96x32x32x16, .f32⟩
  | 31 => ⟨S2x96x32x32x16, .f32⟩
  | 32 => ⟨S_, .f32⟩
  | 33 => ⟨S2x96x32x32, .f32⟩
  | 34 => ⟨S_, .f32⟩
  | 35 => ⟨S2x96x32x32, .f32⟩
  | 36 => ⟨S2x96x32x32, .f32⟩
  | 37 => ⟨S2x32x32x96, .f32⟩
  | 38 => ⟨S2048x96, .f32⟩
  | 39 => ⟨S96x6, .f32⟩
  | 40 => ⟨S2048x6, .f32⟩
  | 41 => ⟨S1x6, .f32⟩
  | 42 => ⟨S2048x6, .f32⟩
  | 43 => ⟨S2048x6, .f32⟩
  | 44 => ⟨S_, .f32⟩
  | 45 => ⟨S2048x6, .f32⟩
  | 46 => ⟨S2048x6, .f32⟩
  | 47 => ⟨S6x96, .f32⟩
  | 48 => ⟨S2048x96, .f32⟩
  | 49 => ⟨S1x96, .f32⟩
  | 50 => ⟨S2048x96, .f32⟩
  | 51 => ⟨S2048x96, .f32⟩
  | 52 => ⟨S2048x96, .f32⟩
  | 53 => ⟨S2048x96, .f32⟩
  | 54 => ⟨S_, .f32⟩
  | 55 => ⟨S2048x96, .f32⟩
  | 56 => ⟨S2048x96, .f32⟩
  | 57 => ⟨S_, .f32⟩
  | 58 => ⟨S2048x96, .f32⟩
  | 59 => ⟨S2048x96, .f32⟩
  | 60 => ⟨S2048x96, .f32⟩
  | 61 => ⟨S_, .f32⟩
  | 62 => ⟨S2048x96, .f32⟩
  | 63 => ⟨S2048x96, .f32⟩
  | 64 => ⟨S_, .f32⟩
  | 65 => ⟨S2048, .f32⟩
  | 66 => ⟨S_, .f32⟩
  | 67 => ⟨S2048, .f32⟩
  | 68 => ⟨S2048, .f32⟩
  | 69 => ⟨S2048x1, .f32⟩
  | 70 => ⟨S2048x96, .f32⟩
  | 71 => ⟨S2048x96, .f32⟩
  | 72 => ⟨S2048x96, .f32⟩
  | 73 => ⟨S_, .f32⟩
  | 74 => ⟨S2048, .f32⟩
  | 75 => ⟨S2048x1, .f32⟩
  | 76 => ⟨S2048x96, .f32⟩
  | 77 => ⟨S2048x96, .f32⟩
  | 78 => ⟨S_, .f32⟩
  | 79 => ⟨S2048x96, .f32⟩
  | 80 => ⟨S2048x96, .f32⟩
  | 81 => ⟨S_, .f32⟩
  | 82 => ⟨S2048, .f32⟩
  | 83 => ⟨S_, .f32⟩
  | 84 => ⟨S2048, .f32⟩
  | 85 => ⟨S2048, .f32⟩
  | 86 => ⟨S2048x1, .f32⟩
  | 87 => ⟨S_, .f32⟩
  | 88 => ⟨S2048, .f32⟩
  | 89 => ⟨S_, .f32⟩
  | 90 => ⟨S2048, .f32⟩
  | 91 => ⟨S2048, .f32⟩
  | 92 => ⟨S2048x1, .f32⟩
  | 93 => ⟨S_, .f32⟩
  | 94 => ⟨S2048x1, .f32⟩
  | 95 => ⟨S2048x1, .f32⟩
  | 96 => ⟨S_, .f32⟩
  | 97 => ⟨S2048x1, .f32⟩
  | 98 => ⟨S2048x1, .f32⟩
  | 99 => ⟨S2048x1, .f32⟩
  | 100 => ⟨S2x1024, .f32⟩
  | 101 => ⟨S1024x2, .f32⟩
  | 102 => ⟨S1024x2, .f32⟩
  | 103 => ⟨S2x1024, .f32⟩
  | 104 => ⟨S2x32x32, .f32⟩
  | 105 => ⟨S2x32x32x16, .f32⟩
  | 106 => ⟨S2x32x512, .f32⟩
  | 107 => ⟨S2x32x1x512, .f32⟩
  | 108 => ⟨S2x96x512x512, .f32⟩
  | _ => ⟨S2x96x512x512, .f32⟩

abbrev hbmTy (i : Nat) : BufTy := match i / 128 with
  | 0 => hbmTy0_0 i
  | 1 => hbmTy0_1 i
  | _ => ⟨S2x96x512x512, .f32⟩

abbrev bufTy : (tb : Table) → Fin (tcTables nBuf tb) → BufTy
  | .hbm, ⟨i, _⟩ => hbmTy i
  | .local _ .vmem, ⟨0, _⟩ => ⟨S2x1024, .f32⟩
  | .local _ .vmem, ⟨1, _⟩ => ⟨S1024x2, .f32⟩
  | .local _ .vmem, ⟨2, _⟩ => ⟨S1024x2, .f32⟩
  | .local _ .vmem, ⟨3, _⟩ => ⟨S1x1x1x512, .f32⟩
  | .local _ .vmem, ⟨4, _⟩ => ⟨S1x1x1x512, .f32⟩
  | .local _ .vmem, ⟨5, _⟩ => ⟨S1x96x16x512, .f32⟩
  | .local _ .vmem, ⟨6, _⟩ => ⟨S1x96x16x512, .f32⟩
  | _, _ => ⟨S2x96x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_call0_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_2 : Ref sig .tc := ⟨.hbm, 64, rfl⟩
abbrev main_v48 : Ref sig .tc := ⟨.hbm, 65, rfl⟩
abbrev main_v49 : Ref sig .tc := ⟨.hbm, 66, rfl⟩
abbrev main_cst_3 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_call1_cst : Ref sig .tc := ⟨.hbm, 78, rfl⟩
abbrev main_call1_v0 : Ref sig .tc := ⟨.hbm, 79, rfl⟩
abbrev main_v60 : Ref sig .tc := ⟨.hbm, 80, rfl⟩
abbrev main_v61 : Ref sig .tc := ⟨.hbm, 81, rfl⟩
abbrev main_c_4 : Ref sig .tc := ⟨.hbm, 82, rfl⟩
abbrev main_call2_v0 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_5 : Ref sig .tc := ⟨.hbm, 123, rfl⟩
abbrev main_v101 : Ref sig .tc := ⟨.hbm, 124, rfl⟩
abbrev main_v102 : Ref sig .tc := ⟨.hbm, 125, rfl⟩
abbrev main_cst_6 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_7 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_8 : Ref sig .tc := ⟨.hbm, 134, rfl⟩
abbrev main_v109 : Ref sig .tc := ⟨.hbm, 135, rfl⟩
abbrev main_cst_9 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_10 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_11 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_12 : Ref sig .tc := ⟨.hbm, 155, rfl⟩
abbrev main_v126 : Ref sig .tc := ⟨.hbm, 156, rfl⟩
abbrev main_cst_13 : Ref sig .tc := ⟨.hbm, 157, rfl⟩
abbrev main_v127 : Ref sig .tc := ⟨.hbm, 158, rfl⟩
abbrev main_v128 : Ref sig .tc := ⟨.hbm, 159, rfl⟩
abbrev main_cst_14 : Ref sig .tc := ⟨.hbm, 160, rfl⟩
abbrev main_v129 : Ref sig .tc := ⟨.hbm, 161, rfl⟩
abbrev main_cst_15 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_call3_cst : Ref sig .tc := ⟨.hbm, 172, rfl⟩
abbrev main_call3_v0 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_16 : Ref sig .tc := ⟨.hbm, 182, rfl⟩
abbrev main_v147 : Ref sig .tc := ⟨.hbm, 183, rfl⟩
abbrev main_v148 : Ref sig .tc := ⟨.hbm, 184, rfl⟩
abbrev main_cst_17 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_cst_18 : Ref sig .tc := ⟨.hbm, 189, rfl⟩
abbrev main_v152 : Ref sig .tc := ⟨.hbm, 190, rfl⟩
abbrev main_v153 : Ref sig .tc := ⟨.hbm, 191, rfl⟩
abbrev main_cst_19 : Ref sig .tc := ⟨.hbm, 192, rfl⟩
abbrev main_v154 : Ref sig .tc := ⟨.hbm, 193, rfl⟩
abbrev main_cst_20 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_cst_21 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_cst_22 : Ref sig .tc := ⟨.hbm, 206, rfl⟩
abbrev main_v165 : Ref sig .tc := ⟨.hbm, 207, rfl⟩
abbrev main_v166 : Ref sig .tc := ⟨.hbm, 208, rfl⟩
abbrev main_cst_23 : Ref sig .tc := ⟨.hbm, 209, rfl⟩
abbrev main_v167 : Ref sig .tc := ⟨.hbm, 210, rfl⟩
abbrev main_cst_24 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_cst_25 : Ref sig .tc := ⟨.hbm, 215, rfl⟩
abbrev main_v171 : Ref sig .tc := ⟨.hbm, 216, rfl⟩
abbrev main_cst_26 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_cst_27 : Ref sig .tc := ⟨.hbm, 221, rfl⟩
abbrev main_v175 : Ref sig .tc := ⟨.hbm, 222, rfl⟩
abbrev main_v176 : Ref sig .tc := ⟨.hbm, 223, rfl⟩
abbrev main_cst_28 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 32], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x1x1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x96x16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]
-- ==== ReferenceIdeal.lean ====
abbrev S2x96x512x512 : Shape := ⟨4, ![2, 96, 512, 512]⟩
abbrev S1x1x7x7 : Shape := ⟨4, ![1, 1, 7, 7]⟩
abbrev S1 : Shape := ⟨1, ![1]⟩
abbrev S6x96 : Shape := ⟨2, ![6, 96]⟩
abbrev S6 : Shape := ⟨1, ![6]⟩
abbrev S96x6 : Shape := ⟨2, ![96, 6]⟩
abbrev S96 : Shape := ⟨1, ![96]⟩
abbrev S2x96x32x16x32x16 : Shape := ⟨6, ![2, 96, 32, 16, 32, 16]⟩
abbrev S2x96x16x16x32x32 : Shape := ⟨6, ![2, 96, 16, 16, 32, 32]⟩
abbrev S2x24576x1024 : Shape := ⟨3, ![2, 24576, 1024]⟩
abbrev S2x1024x24576 : Shape := ⟨3, ![2, 1024, 24576]⟩
abbrev S2048x96x16x16 : Shape := ⟨4, ![2048, 96, 16, 16]⟩
abbrev S_ : Shape := ⟨0, ![]⟩
abbrev S2048x16x16 : Shape := ⟨3, ![2048, 16, 16]⟩
abbrev S2048x1x16x16 : Shape := ⟨4, ![2048, 1, 16, 16]⟩
abbrev S2048x22x22 : Shape := ⟨3, ![2048, 22, 22]⟩
abbrev S16 : Shape := ⟨1, ![16]⟩
abbrev S16x1 : Shape := ⟨2, ![16, 1]⟩
abbrev S7 : Shape := ⟨1, ![7]⟩
abbrev S1x7 : Shape := ⟨2, ![1, 7]⟩
abbrev S16x7 : Shape := ⟨2, ![16, 7]⟩
abbrev S16x1x7x1 : Shape := ⟨4, ![16, 1, 7, 1]⟩
abbrev S1x16x1x7 : Shape := ⟨4, ![1, 16, 1, 7]⟩
abbrev S16x16x7x7 : Shape := ⟨4, ![16, 16, 7, 7]⟩
abbrev S16x16x7x7x1 : Shape := ⟨5, ![16, 16, 7, 7, 1]⟩
abbrev S16x16x7x7x2 : Shape := ⟨5, ![16, 16, 7, 7, 2]⟩
abbrev S2048x16x16x7x7 : Shape := ⟨5, ![2048, 16, 16, 7, 7]⟩
abbrev S7x7 : Shape := ⟨2, ![7, 7]⟩
abbrev S1x1x1x7x7 : Shape := ⟨5, ![1, 1, 1, 7, 7]⟩
abbrev S2048x16x16x7 : Shape := ⟨4, ![2048, 16, 16, 7]⟩
abbrev S1x1x1x1 : Shape := ⟨4, ![1, 1, 1, 1]⟩
abbrev S2048x256 : Shape := ⟨2, ![2048, 256]⟩
abbrev S2048 : Shape := ⟨1, ![2048]⟩
abbrev S2048x1 : Shape := ⟨2, ![2048, 1]⟩
abbrev S2048x96x16 : Shape := ⟨3, ![2048, 96, 16]⟩
abbrev S2048x96 : Shape := ⟨2, ![2048, 96]⟩
abbrev S2048x6 : Shape := ⟨2, ![2048, 6]⟩
abbrev S1x6 : Shape := ⟨2, ![1, 6]⟩
abbrev S1x96 : Shape := ⟨2, ![1, 96]⟩
abbrev S2x1024 : Shape := ⟨2, ![2, 1024]⟩
abbrev S2x512 : Shape := ⟨2, ![2, 512]⟩
abbrev S2 : Shape := ⟨1, ![2]⟩
abbrev S2x1 : Shape := ⟨2, ![2, 1]⟩
abbrev S2x512x1 : Shape := ⟨3, ![2, 512, 1]⟩
abbrev S2x512x2 : Shape := ⟨3, ![2, 512, 2]⟩
abbrev S2x1x1024 : Shape := ⟨3, ![2, 1, 1024]⟩

abbrev nBuf : Space → Nat
  | .hbm => 279
  | .vmem => 0
  | .smem => 0
  | _ => 0

abbrev hbmTy0_0 (i : Nat) : BufTy := match i % 128 with
  | 0 => ⟨S2x96x512x512, .f32⟩
  | 1 => ⟨S1x1x7x7, .f32⟩
  | 2 => ⟨S1, .f32⟩
  | 3 => ⟨S1, .f32⟩
  | 4 => ⟨S1, .f32⟩
  | 5 => ⟨S1x1x7x7, .f32⟩
  | 6 => ⟨S1, .f32⟩
  | 7 => ⟨S6x96, .f32⟩
  | 8 => ⟨S6, .f32⟩
  | 9 => ⟨S96x6, .f32⟩
  | 10 => ⟨S96, .f32⟩
  | 11 => ⟨S2x96x32x16x32x16, .f32⟩
  | 12 => ⟨S2x96x16x16x32x32, .f32⟩
  | 13 => ⟨S2x24576x1024, .f32⟩
  | 14 => ⟨S2x1024x24576, .f32⟩
  | 15 => ⟨S2048x96x16x16, .f32⟩
  | 16 => ⟨S2048x96x16x16, .f32⟩
  | 17 => ⟨S_, .f32⟩
  | 18 => ⟨S2048x16x16, .f32⟩
  | 19 => ⟨S2048x1x16x16, .f32⟩
  | 20 => ⟨S_, .f32⟩
  | 21 => ⟨S2048x1x16x16, .f32⟩
  | 22 => ⟨S2048x1x16x16, .f32⟩
  | 23 => ⟨S_, .f32⟩
  | 24 => ⟨S_, .f32⟩
  | 25 => ⟨S2048x1x16x16, .f32⟩
  | 26 => ⟨S2048x1x16x16, .f32⟩
  | 27 => ⟨S2048x16x16, .f32⟩
  | 28 => ⟨S_, .i32⟩
  | 29 => ⟨S_, .f32⟩
  | 30 => ⟨S2048x22x22, .f32⟩
  | 31 => ⟨S16, .i32⟩
  | 32 => ⟨S16x1, .i32⟩
  | 33 => ⟨S7, .i32⟩
  | 34 => ⟨S1x7, .i32⟩
  | 35 => ⟨S16x7, .i32⟩
  | 36 => ⟨S16x7, .i32⟩
  | 37 => ⟨S16x7, .i32⟩
  | 38 => ⟨S16x1x7x1, .i32⟩
  | 39 => ⟨S1x16x1x7, .i32⟩
  | 40 => ⟨S_, .i32⟩
  | 41 => ⟨S16x1x7x1, .i32⟩
  | 42 => ⟨S16x1x7x1, .i1⟩
  | 43 => ⟨S_, .i32⟩
  | 44 => ⟨S16x1x7x1, .i32⟩
  | 45 => ⟨S16x1x7x1, .i32⟩
  | 46 => ⟨S16x1x7x1, .i32⟩
  | 47 => ⟨S_, .i32⟩
  | 48 => ⟨S1x16x1x7, .i32⟩
  | 49 => ⟨S1x16x1x7, .i1⟩
  | 50 => ⟨S_, .i32⟩
  | 51 => ⟨S1x16x1x7, .i32⟩
  | 52 => ⟨S1x16x1x7, .i32⟩
  | 53 => ⟨S1x16x1x7, .i32⟩
  | 54 => ⟨S16x16x7x7, .i32⟩
  | 55 => ⟨S16x16x7x7, .i32⟩
  | 56 => ⟨S16x16x7x7x1, .i32⟩
  | 57 => ⟨S16x16x7x7x1, .i32⟩
  | 58 => ⟨S16x16x7x7x2, .i32⟩
  | 59 => ⟨S2048x16x16x7x7, .f32⟩
  | 60 => ⟨S7x7, .f32⟩
  | 61 => ⟨S1x1x1x7x7, .f32⟩
  | 62 => ⟨S2048x16x16x7x7, .f32⟩
  | 63 => ⟨S2048x16x16x7x7, .f32⟩
  | 64 => ⟨S_, .f32⟩
  | 65 => ⟨S2048x16x16x7, .f32⟩
  | 66 => ⟨S_, .f32⟩
  | 67 => ⟨S2048x16x16, .f32⟩
  | 68 => ⟨S2048x1x16x16, .f32⟩
  | 69 => ⟨S1x1x1x1, .f32⟩
  | 70 => ⟨S2048x1x16x16, .f32⟩
  | 71 => ⟨S2048x1x16x16, .f32⟩
  | 72 => ⟨S_, .f32⟩
  | 73 => ⟨S2048x1x16x16, .f32⟩
  | 74 => ⟨S2048x1x16x16, .f32⟩
  | 75 => ⟨S_, .f32⟩
  | 76 => ⟨S_, .f32⟩
  | 77 => ⟨S_, .f32⟩
  | 78 => ⟨S2048x1x16x16, .f32⟩
  | 79 => ⟨S2048x1x16x16, .f32⟩
  | 80 => ⟨S1x1x1x1, .f32⟩
  | 81 => ⟨S2048x1x16x16, .f32⟩
  | 82 => ⟨S2048x1x16x16, .f32⟩
  | 83 => ⟨S1x1x1x1, .f32⟩
  | 84 => ⟨S2048x1x16x16, .f32⟩
  | 85 => ⟨S2048x1x16x16, .f32⟩
  | 86 => ⟨S_, .f32⟩
  | 87 => ⟨S2048x1x16x16, .f32⟩
  | 88 => ⟨S2048x1x16x16, .f32⟩
  | 89 => ⟨S2048x16x16, .f32⟩
  | 90 => ⟨S_, .i32⟩
  | 91 => ⟨S_, .f32⟩
  | 92 => ⟨S2048x22x22, .f32⟩
  | 93 => ⟨S16, .i32⟩
  | 94 => ⟨S16x1, .i32⟩
  | 95 => ⟨S7, .i32⟩
  | 96 => ⟨S1x7, .i32⟩
  | 97 => ⟨S16x7, .i32⟩
  | 98 => ⟨S16x7, .i32⟩
  | 99 => ⟨S16x7, .i32⟩
  | 100 => ⟨S16x1x7x1, .i32⟩
  | 101 => ⟨S1x16x1x7, .i32⟩
  | 102 => ⟨S_, .i32⟩
  | 103 => ⟨S16x1x7x1, .i32⟩
  | 104 => ⟨S16x1x7x1, .i1⟩
  | 105 => ⟨S_, .i32⟩
  | 106 => ⟨S16x1x7x1, .i32⟩
  | 107 => ⟨S16x1x7x1, .i32⟩
  | 108 => ⟨S16x1x7x1, .i32⟩
  | 109 => ⟨S_, .i32⟩
  | 110 => ⟨S1x16x1x7, .i32⟩
  | 111 => ⟨S1x16x1x7, .i1⟩
  | 112 => ⟨S_, .i32⟩
  | 113 => ⟨S1x16x1x7, .i32⟩
  | 114 => ⟨S1x16x1x7, .i32⟩
  | 115 => ⟨S1x16x1x7, .i32⟩
  | 116 => ⟨S16x16x7x7, .i32⟩
  | 117 => ⟨S16x16x7x7, .i32⟩
  | 118 => ⟨S16x16x7x7x1, .i32⟩
  | 119 => ⟨S16x16x7x7x1, .i32⟩
  | 120 => ⟨S16x16x7x7x2, .i32⟩
  | 121 => ⟨S2048x16x16x7x7, .f32⟩
  | 122 => ⟨S7x7, .f32⟩
  | 123 => ⟨S1x1x1x7x7, .f32⟩
  | 124 => ⟨S2048x16x16x7x7, .f32⟩
  | 125 => ⟨S2048x16x16x7x7, .f32⟩
  | 126 => ⟨S_, .f32⟩
  | 127 => ⟨S2048x16x16x7, .f32⟩
  | _ => ⟨S2x96x512x512, .f32⟩

abbrev hbmTy0_1 (i : Nat) : BufTy := match i % 128 with
  | 0 => ⟨S_, .f32⟩
  | 1 => ⟨S2048x16x16, .f32⟩
  | 2 => ⟨S2048x1x16x16, .f32⟩
  | 3 => ⟨S1x1x1x1, .f32⟩
  | 4 => ⟨S2048x1x16x16, .f32⟩
  | 5 => ⟨S2048x1x16x16, .f32⟩
  | 6 => ⟨S2048x1x16x16, .f32⟩
  | 7 => ⟨S2048x1x16x16, .f32⟩
  | 8 => ⟨S_, .f32⟩
  | 9 => ⟨S2048x1x16x16, .f32⟩
  | 10 => ⟨S2048x1x16x16, .f32⟩
  | 11 => ⟨S_, .f32⟩
  | 12 => ⟨S2048x1x16x16, .f32⟩
  | 13 => ⟨S2048x1x16x16, .f32⟩
  | 14 => ⟨S2048x1x16x16, .f32⟩
  | 15 => ⟨S_, .f32⟩
  | 16 => ⟨S2048x1x16x16, .f32⟩
  | 17 => ⟨S2048x1x16x16, .f32⟩
  | 18 => ⟨S2048x256, .f32⟩
  | 19 => ⟨S_, .f32⟩
  | 20 => ⟨S2048, .f32⟩
  | 21 => ⟨S_, .f32⟩
  | 22 => ⟨S2048, .f32⟩
  | 23 => ⟨S2048, .f32⟩
  | 24 => ⟨S2048x1, .f32⟩
  | 25 => ⟨S2048x256, .f32⟩
  | 26 => ⟨S2048x256, .f32⟩
  | 27 => ⟨S2048x256, .f32⟩
  | 28 => ⟨S_, .f32⟩
  | 29 => ⟨S2048, .f32⟩
  | 30 => ⟨S2048x1, .f32⟩
  | 31 => ⟨S2048x256, .f32⟩
  | 32 => ⟨S2048x256, .f32⟩
  | 33 => ⟨S_, .f32⟩
  | 34 => ⟨S2048x256, .f32⟩
  | 35 => ⟨S2048x256, .f32⟩
  | 36 => ⟨S2048x16x16, .f32⟩
  | 37 => ⟨S_, .f32⟩
  | 38 => ⟨S2048x96x16, .f32⟩
  | 39 => ⟨S_, .f32⟩
  | 40 => ⟨S2048x96x16, .f32⟩
  | 41 => ⟨S2048x96x16, .f32⟩
  | 42 => ⟨S_, .f32⟩
  | 43 => ⟨S2048x96, .f32⟩
  | 44 => ⟨S_, .f32⟩
  | 45 => ⟨S2048x96, .f32⟩
  | 46 => ⟨S2048x96, .f32⟩
  | 47 => ⟨S96x6, .f32⟩
  | 48 => ⟨S2048x6, .f32⟩
  | 49 => ⟨S1x6, .f32⟩
  | 50 => ⟨S2048x6, .f32⟩
  | 51 => ⟨S2048x6, .f32⟩
  | 52 => ⟨S_, .f32⟩
  | 53 => ⟨S2048x6, .f32⟩
  | 54 => ⟨S2048x6, .f32⟩
  | 55 => ⟨S6x96, .f32⟩
  | 56 => ⟨S2048x96, .f32⟩
  | 57 => ⟨S1x96, .f32⟩
  | 58 => ⟨S2048x96, .f32⟩
  | 59 => ⟨S2048x96, .f32⟩
  | 60 => ⟨S2048x96, .f32⟩
  | 61 => ⟨S2048x96, .f32⟩
  | 62 => ⟨S_, .f32⟩
  | 63 => ⟨S2048x96, .f32⟩
  | 64 => ⟨S2048x96, .f32⟩
  | 65 => ⟨S_, .f32⟩
  | 66 => ⟨S2048x96, .f32⟩
  | 67 => ⟨S2048x96, .f32⟩
  | 68 => ⟨S2048x96, .f32⟩
  | 69 => ⟨S_, .f32⟩
  | 70 => ⟨S2048x96, .f32⟩
  | 71 => ⟨S2048x96, .f32⟩
  | 72 => ⟨S_, .f32⟩
  | 73 => ⟨S2048, .f32⟩
  | 74 => ⟨S_, .f32⟩
  | 75 => ⟨S2048, .f32⟩
  | 76 => ⟨S2048, .f32⟩
  | 77 => ⟨S2048x1, .f32⟩
  | 78 => ⟨S2048x96, .f32⟩
  | 79 => ⟨S2048x96, .f32⟩
  | 80 => ⟨S2048x96, .f32⟩
  | 81 => ⟨S_, .f32⟩
  | 82 => ⟨S2048, .f32⟩
  | 83 => ⟨S2048x1, .f32⟩
  | 84 => ⟨S2048x96, .f32⟩
  | 85 => ⟨S2048x96, .f32⟩
  | 86 => ⟨S_, .f32⟩
  | 87 => ⟨S2048x96, .f32⟩
  | 88 => ⟨S2048x96, .f32⟩
  | 89 => ⟨S_, .f32⟩
  | 90 => ⟨S2048, .f32⟩
  | 91 => ⟨S_, .f32⟩
  | 92 => ⟨S2048, .f32⟩
  | 93 => ⟨S2048, .f32⟩
  | 94 => ⟨S2048x1, .f32⟩
  | 95 => ⟨S_, .f32⟩
  | 96 => ⟨S2048, .f32⟩
  | 97 => ⟨S_, .f32⟩
  | 98 => ⟨S2048, .f32⟩
  | 99 => ⟨S2048, .f32⟩
  | 100 => ⟨S2048x1, .f32⟩
  | 101 => ⟨S_, .f32⟩
  | 102 => ⟨S2048x1, .f32⟩
  | 103 => ⟨S2048x1, .f32⟩
  | 104 => ⟨S_, .f32⟩
  | 105 => ⟨S2048x1, .f32⟩
  | 106 => ⟨S2048x1, .f32⟩
  | 107 => ⟨S2048x1, .f32⟩
  | 108 => ⟨S2x1024, .f32⟩
  | 109 => ⟨S2x1024, .f32⟩
  | 110 => ⟨S2x512, .f32⟩
  | 111 => ⟨S2x512, .i32⟩
  | 112 => ⟨S_, .f32⟩
  | 113 => ⟨S2x1024, .f32⟩
  | 114 => ⟨S2, .i32⟩
  | 115 => ⟨S2x1, .i32⟩
  | 116 => ⟨S_, .i32⟩
  | 117 => ⟨S2x1, .i32⟩
  | 118 => ⟨S2x1, .i1⟩
  | 119 => ⟨S_, .i32⟩
  | 120 => ⟨S2x1, .i32⟩
  | 121 => ⟨S2x1, .i32⟩
  | 122 => ⟨S2x1, .i32⟩
  | 123 => ⟨S_, .i32⟩
  | 124 => ⟨S2x512, .i32⟩
  | 125 => ⟨S2x512, .i1⟩
  | 126 => ⟨S_, .i32⟩
  | 127 => ⟨S2x512, .i32⟩
  | _ => ⟨S2x96x512x512, .f32⟩

abbrev hbmTy0_2 (i : Nat) : BufTy := match i % 128 with
  | 0 => ⟨S2x512, .i32⟩
  | 1 => ⟨S2x512, .i32⟩
  | 2 => ⟨S2x512, .i32⟩
  | 3 => ⟨S2x512x1, .i32⟩
  | 4 => ⟨S2x512x1, .i32⟩
  | 5 => ⟨S2x512x2, .i32⟩
  | 6 => ⟨S_, .f32⟩
  | 7 => ⟨S2x512, .f32⟩
  | 8 => ⟨S2x1024, .f32⟩
  | 9 => ⟨S2x1x1024, .f32⟩
  | 10 => ⟨S2x24576x1024, .f32⟩
  | 11 => ⟨S2x96x16x16x32x32, .f32⟩
  | 12 => ⟨S2x96x32x16x32x16, .f32⟩
  | 13 => ⟨S2x96x512x512, .f32⟩
  | 14 => ⟨S_, .f32⟩
  | 15 => ⟨S2x96x512x512, .f32⟩
  | 16 => ⟨S2x96x512x512, .i1⟩
  | 17 => ⟨S_, .f32⟩
  | 18 => ⟨S_, .f32⟩
  | 19 => ⟨S2x96x512x512, .f32⟩
  | 20 => ⟨S2x96x512x512, .f32⟩
  | 21 => ⟨S2x96x512x512, .f32⟩
  | 22 => ⟨S2x96x512x512, .f32⟩
  | _ => ⟨S2x96x512x512, .f32⟩

abbrev hbmTy (i : Nat) : BufTy := match i / 128 with
  | 0 => hbmTy0_0 i
  | 1 => hbmTy0_1 i
  | 2 => hbmTy0_2 i
  | _ => ⟨S2x96x512x512, .f32⟩

abbrev bufTy : (tb : Table) → Fin (tcTables nBuf tb) → BufTy
  | .hbm, ⟨i, _⟩ => hbmTy i
  | _, _ => ⟨S2x96x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_call0_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_2 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_c_10 : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_11 : Ref sig .tc := ⟨.hbm, 102, rfl⟩
abbrev main_v74 : Ref sig .tc := ⟨.hbm, 103, rfl⟩
abbrev main_v75 : Ref sig .tc := ⟨.hbm, 104, rfl⟩
abbrev main_c_12 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_13 : Ref sig .tc := ⟨.hbm, 109, rfl⟩
abbrev main_v79 : Ref sig .tc := ⟨.hbm, 110, rfl⟩
abbrev main_v80 : Ref sig .tc := ⟨.hbm, 111, rfl⟩
abbrev main_c_14 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_15 : Ref sig .tc := ⟨.hbm, 126, rfl⟩
abbrev main_v94 : Ref sig .tc := ⟨.hbm, 127, rfl⟩
abbrev main_cst_16 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_17 : Ref sig .tc := ⟨.hbm, 136, rfl⟩
abbrev main_v102 : Ref sig .tc := ⟨.hbm, 137, rfl⟩
abbrev main_v103 : Ref sig .tc := ⟨.hbm, 138, rfl⟩
abbrev main_cst_18 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_19 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_20 : Ref sig .tc := ⟨.hbm, 147, rfl⟩
abbrev main_v110 : Ref sig .tc := ⟨.hbm, 148, rfl⟩
abbrev main_cst_21 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_22 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_23 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_24 : Ref sig .tc := ⟨.hbm, 165, rfl⟩
abbrev main_v124 : Ref sig .tc := ⟨.hbm, 166, rfl⟩
abbrev main_cst_25 : Ref sig .tc := ⟨.hbm, 167, rfl⟩
abbrev main_v125 : Ref sig .tc := ⟨.hbm, 168, rfl⟩
abbrev main_v126 : Ref sig .tc := ⟨.hbm, 169, rfl⟩
abbrev main_cst_26 : Ref sig .tc := ⟨.hbm, 170, rfl⟩
abbrev main_v127 : Ref sig .tc := ⟨.hbm, 171, rfl⟩
abbrev main_cst_27 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_call3_cst : Ref sig .tc := ⟨.hbm, 180, rfl⟩
abbrev main_call3_v0 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_28 : Ref sig .tc := ⟨.hbm, 190, rfl⟩
abbrev main_v143 : Ref sig .tc := ⟨.hbm, 191, rfl⟩
abbrev main_v144 : Ref sig .tc := ⟨.hbm, 192, rfl⟩
abbrev main_cst_29 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_30 : Ref sig .tc := ⟨.hbm, 197, rfl⟩
abbrev main_v148 : Ref sig .tc := ⟨.hbm, 198, rfl⟩
abbrev main_v149 : Ref sig .tc := ⟨.hbm, 199, rfl⟩
abbrev main_cst_31 : Ref sig .tc := ⟨.hbm, 200, rfl⟩
abbrev main_v150 : Ref sig .tc := ⟨.hbm, 201, rfl⟩
abbrev main_cst_32 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_33 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_34 : Ref sig .tc := ⟨.hbm, 214, rfl⟩
abbrev main_v161 : Ref sig .tc := ⟨.hbm, 215, rfl⟩
abbrev main_v162 : Ref sig .tc := ⟨.hbm, 216, rfl⟩
abbrev main_cst_35 : Ref sig .tc := ⟨.hbm, 217, rfl⟩
abbrev main_v163 : Ref sig .tc := ⟨.hbm, 218, rfl⟩
abbrev main_cst_36 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_cst_37 : Ref sig .tc := ⟨.hbm, 223, rfl⟩
abbrev main_v167 : Ref sig .tc := ⟨.hbm, 224, rfl⟩
abbrev main_cst_38 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_cst_39 : Ref sig .tc := ⟨.hbm, 229, rfl⟩
abbrev main_v171 : Ref sig .tc := ⟨.hbm, 230, rfl⟩
abbrev main_v172 : Ref sig .tc := ⟨.hbm, 231, rfl⟩
abbrev main_cst_40 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_values : Ref sig .tc := ⟨.hbm, 238, rfl⟩
abbrev main_indices : Ref sig .tc := ⟨.hbm, 239, rfl⟩
abbrev main_cst_41 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_c_42 : Ref sig .tc := ⟨.hbm, 244, rfl⟩
abbrev main_v181 : Ref sig .tc := ⟨.hbm, 245, rfl⟩
abbrev main_v182 : Ref sig .tc := ⟨.hbm, 246, rfl⟩
abbrev main_c_43 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_c_44 : Ref sig .tc := ⟨.hbm, 251, rfl⟩
abbrev main_v186 : Ref sig .tc := ⟨.hbm, 252, rfl⟩
abbrev main_v187 : Ref sig .tc := ⟨.hbm, 253, rfl⟩
abbrev main_c_45 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_cst_46 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_cst_47 : Ref sig .tc := ⟨.hbm, 270, rfl⟩
abbrev main_v202 : Ref sig .tc := ⟨.hbm, 271, rfl⟩
abbrev main_v203 : Ref sig .tc := ⟨.hbm, 272, rfl⟩
abbrev main_cst_48 : Ref sig .tc := ⟨.hbm, 273, rfl⟩
abbrev main_cst_49 : Ref sig .tc := ⟨.hbm, 274, rfl⟩
abbrev main_call4_v0 : Ref sig .tc := ⟨.hbm, 275, rfl⟩
abbrev main_call4_v1 : Ref sig .tc := ⟨.hbm, 276, rfl⟩
abbrev main_v204 : Ref sig .tc := ⟨.hbm, 277, rfl⟩
abbrev main_v205 : Ref sig .tc := ⟨.hbm, 278, rfl⟩

abbrev nD : Nat := 1
abbrev τ : Topo := Topo.v7x

variable {F : FTy → Type} [FloatOps F]
-- ==== Proof.KernelRun.lean ====
/-
  The whole run of the kernel's program: every buffer that outlives the calls ends at the contents the segments'
  chain computes, the result among them at what the second call's pipeline leaves in it.
-/
module

public import proofs.«01_k».proof.Proof.Gen.KernelIdeal.Frame

@[expose] public section

set_option maxRecDepth 16384

noncomputable section

namespace Cert.KernelSide

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the calls ends at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W12 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h _ => h)

/-- The result ends at what the second call's pipeline leaves in its output array. -/
theorem result_eq (c : Dev nD) : W12 m ρ c (Proc.devRef .tc main_v188) = (dat1 (V11 m ρ) c).arrAt 1 cfg1.N :=
  W12_arr m ρ c 1

end Cert.KernelSide

end
-- ==== Proof.Rank.lean ====
/-
  Rank and stable sorting.  A stable sort of `n` keys puts at place `k` the position that exactly `k` positions
  precede, a position preceding another when its key is smaller, or when the keys are equal and it comes first.
  Hence the first `K` places hold exactly the positions of rank below `K`.
-/
module

public import Idealize.ShloMosaic.Lib.SortFacts

@[expose] public section

namespace Cert.Select

open Idealize.ShloMosaic

variable {α : Type} [LinearOrder α]

/-- `j` comes before `i`: a smaller key, or an equal key at an earlier position. -/
def Precedes {n : Nat} (s : Fin n → α) (j i : Fin n) : Prop := s j < s i ∨ (s j = s i ∧ j < i)

instance {n : Nat} (s : Fin n → α) (j i : Fin n) : Decidable (Precedes s j i) := inferInstanceAs (Decidable (_ ∨ _))

/-- How many positions come before `i`. -/
def rank {n : Nat} (s : Fin n → α) (i : Fin n) : Nat := (Finset.univ.filter fun j => Precedes s j i).card

theorem rank_lt {n : Nat} (s : Fin n → α) (i : Fin n) : rank s i < n := by
  have hi : i ∉ Finset.univ.filter fun j => Precedes s j i := by
    rw [Finset.mem_filter]
    rintro ⟨_, h | ⟨_, h⟩⟩
    · exact lt_irrefl _ h
    · exact lt_irrefl _ h
  have h := Finset.card_lt_univ_of_notMem hi
  rwa [Fintype.card_fin] at h

theorem precedes_asymm {n : Nat} (s : Fin n → α) {i j : Fin n} (h : Precedes s i j) : ¬ Precedes s j i := by
  rintro (h' | ⟨e, h'⟩)
  · rcases h with h | ⟨e, h⟩
    · exact lt_asymm h h'
    · exact absurd e (ne_of_gt h')
  · rcases h with h | ⟨_, h⟩
    · exact absurd e (ne_of_gt h)
    · exact lt_asymm h h'

theorem precedes_total {n : Nat} (s : Fin n → α) {i j : Fin n} (hne : i ≠ j) (h : ¬ Precedes s j i) : Precedes s i j := by
  unfold Precedes at h ⊢
  rcases lt_trichotomy (s i) (s j) with hl | he | hg
  · exact Or.inl hl
  · rcases lt_or_gt_of_ne hne with hl | hg
    · exact Or.inr ⟨he, hl⟩
    · exact absurd (Or.inr ⟨he.symm, hg⟩) h
  · exact absurd (Or.inl hg) h

theorem precedes_negTrans {n : Nat} (s : Fin n → α) {a b c : Fin n} (hab : ¬ Precedes s a b) (hbc : ¬ Precedes s b c) :
    ¬ Precedes s a c := by
  unfold Precedes at *
  push Not at *
  refine ⟨le_trans hbc.1 hab.1, fun e => ?_⟩
  have e1 : s b = s c := le_antisymm (e ▸ hab.1) hbc.1
  exact le_trans (hbc.2 e1) (hab.2 (e.trans e1.symm))

/-- Sorting an increasing list of positions stably by the keys is sorting it by `Precedes`. -/
theorem stableSort_eq {n : Nat} (s : Fin n → α) (before : Fin n → Fin n → Bool)
    (hb : ∀ j i, before j i = true ↔ s j < s i) (l : List (Fin n)) (hl : l.Pairwise (· < ·)) :
    stableSort before l = stableSort (fun j i => decide (Precedes s j i)) l := by
  induction l with
  | nil => rfl
  | cons a l ih =>
    rw [List.pairwise_cons] at hl
    unfold stableSort
    rw [ih hl.2]
    refine insertBefore_congr _ _ a _ fun b hbm => ?_
    have hab : a < b := hl.1 b ((perm_stableSort _ l).mem_iff.mp hbm)
    rw [Bool.eq_iff_iff, hb, decide_eq_true_iff]
    exact ⟨Or.inl, fun h => h.elim id fun h' => absurd h'.2 (lt_asymm hab)⟩

theorem sortedFrom_eq {n : Nat} (s : Fin n → α) (before : Fin n → Fin n → Bool)
    (hb : ∀ j i, before j i = true ↔ s j < s i) :
    sortedFrom before = sortedFrom (fun j i => decide (Precedes s j i)) := by
  funext k
  unfold sortedFrom
  have h : sortPositions n before = sortPositions n (fun j i => decide (Precedes s j i)) :=
    stableSort_eq s before hb _ (List.pairwise_lt_finRange n)
  rw [List.get_of_eq h]
  rfl

/-- The position the sort puts at place `k` has rank `k`. -/
theorem rank_sortedFrom {n : Nat} (s : Fin n → α) (before : Fin n → Fin n → Bool)
    (hb : ∀ j i, before j i = true ↔ s j < s i) (k : Fin n) : rank s (sortedFrom before k) = k.val := by
  have hbij : Function.Bijective (sortedFrom before) := ⟨sortedFrom_injective _, sortedFrom_surjective _⟩
  have hno : ∀ i j : Fin n, i < j → ¬ Precedes s (sortedFrom before j) (sortedFrom before i) := by
    intro i j hij
    rw [sortedFrom_eq s before hb]
    have h := sortedFrom_noInversion (fun j i => decide (Precedes s j i)) (fun j i => decide (Precedes s j i))
      (fun a b h => decide_eq_false (precedes_asymm s (of_decide_eq_true h))) (fun _ _ h => h)
      (fun a b c h h' => decide_eq_false (precedes_negTrans s (of_decide_eq_false h) (of_decide_eq_false h'))) i j hij
    exact of_decide_eq_false h
  have hiff : ∀ j : Fin n, Precedes s (sortedFrom before j) (sortedFrom before k) ↔ j < k := by
    intro j
    constructor
    · intro h
      by_contra hn
      rcases lt_or_eq_of_le (not_lt.mp hn) with hlt | he
      · exact hno k j hlt h
      · subst he
        exact precedes_asymm s h h
    · intro h
      exact precedes_total s (fun e => (ne_of_lt h) (hbij.1 e)) (hno j k h)
  unfold rank
  have he : (Finset.univ.filter fun j => Precedes s j (sortedFrom before k))
      = (Finset.Iio k).map ⟨sortedFrom before, hbij.1⟩ := by
    ext j
    obtain ⟨j, rfl⟩ := hbij.2 j
    simp only [Finset.mem_filter, Finset.mem_univ, true_and, Finset.mem_map, Finset.mem_Iio, Function.Embedding.coeFn_mk]
    rw [hiff]
    exact ⟨fun h => ⟨j, h, rfl⟩, fun ⟨j', h, e⟩ => hbij.1 e ▸ h⟩
  rw [he, Finset.card_map, Fin.card_Iio]

/-- The first `K` places of the sort hold exactly the positions of rank below `K`. -/
theorem exists_place_iff {n : Nat} (s : Fin n → α) (before : Fin n → Fin n → Bool)
    (hb : ∀ j i, before j i = true ↔ s j < s i) (K : Nat) (i : Fin n) :
    (∃ k : Fin n, k.val < K ∧ sortedFrom before k = i) ↔ rank s i < K := by
  constructor
  · rintro ⟨k, hk, rfl⟩
    rwa [rank_sortedFrom s before hb]
  · intro h
    obtain ⟨k, rfl⟩ := sortedFrom_surjective before i
    rw [rank_sortedFrom s before hb] at h
    exact ⟨k, h, rfl⟩

end Cert.Select
-- ==== Proof.Scores.lean ====
/-
  The score of a patch as a function of its energy map and its channel means: the stages that the kernel's host
  program and the reference share once those two maps are known.  Each stage is named for what it is in the problem.
-/
module

public import proofs.«01_k».proof.Proof.Gen.KernelIdeal

@[expose] public section

noncomputable section

namespace Cert.Scores

open Idealize.ShloMosaic
open Cert.KernelIdeal Cert.KernelIdeal.Gen

variable {F : FTy → Type} [FloatOps F]

/-- A map per patch: 2048 patches, one channel, 16 by 16 pixels. -/
abbrev Maps (F : FTy → Type) := FVec F S2048x1x16x16 .f32

/-! ## The spatial branch -/

/-- A map plus its own 3 by 3 running maximum. -/
def pooled (x : Maps F) : Maps F :=
  addf x (Host.reduceWindow FloatOps.maximumf ![1, 1, 3, 3] ![1, 1, 1, 1] ![0, 0, 1, 1] ![0, 0, 1, 1] x
    (broadcastInDim S_ ![] bcast_S_S_ (constant S_ .f32 0xFF800000#32))
    reduceWindows_S2048x1x16x16_S2048x1x16x16_w1s1p0_0_w1s1p0_0_w3s1p1_1_w3s1p1_1 h_S_)

/-- Every patch with three zeros added on each side. -/
def padded (x : Maps F) : FVec F S2048x22x22 .f32 :=
  pad S2048x22x22 ![0, 3, 3] ![0, 3, 3] ![0, 0, 0] (shapeCast S2048x16x16 x shapeCasts_S2048x1x16x16_S2048x16x16)
    (sitofp .f32 (constantI S_ 32 0#32)) pads_S2048x16x16_S2048x22x22_000_330_330 h_S_

/-- Rows `a` to `a + 15` of a padded patch, as one member of a stack. -/
def rowBand (xp : FVec F S2048x22x22 .f32) (off : Fin 3 → Nat) (h : S2048x22x22.Slices off S2048x16x22) :
    FVec F S2048x1x16x22 .f32 :=
  broadcastInDim S2048x1x16x22 ![0, 2, 3] bcast_S2048x16x22_S2048x1x16x22_0_2_3 (extractStridedSlice S2048x16x22 off xp h)

/-- The seven row bands stacked. -/
def rowBands (xp : FVec F S2048x22x22 .f32) : FVec F S2048x7x16x22 .f32 :=
  concatenate S2048x7x16x22 1
    [⟨S2048x1x16x22, rowBand xp ![0, 0, 0] slices_S2048x22x22_S2048x16x22_0_0_0⟩,
     ⟨S2048x1x16x22, rowBand xp ![0, 1, 0] slices_S2048x22x22_S2048x16x22_0_1_0⟩,
     ⟨S2048x1x16x22, rowBand xp ![0, 2, 0] slices_S2048x22x22_S2048x16x22_0_2_0⟩,
     ⟨S2048x1x16x22, rowBand xp ![0, 3, 0] slices_S2048x22x22_S2048x16x22_0_3_0⟩,
     ⟨S2048x1x16x22, rowBand xp ![0, 4, 0] slices_S2048x22x22_S2048x16x22_0_4_0⟩,
     ⟨S2048x1x16x22, rowBand xp ![0, 5, 0] slices_S2048x22x22_S2048x16x22_0_5_0⟩,
     ⟨S2048x1x16x22, rowBand xp ![0, 6, 0] slices_S2048x22x22_S2048x16x22_0_6_0⟩]
    concatenates_S2048x1x16x22_S2048x1x16x22_S2048x1x16x22_S2048x1x16x22_S2048x1x16x22_S2048x1x16x22_S2048x1x16x22_S2048x7x16x22_d1

/-- Columns `d` to `d + 15` of the stacked row bands, as one member of a stack. -/
def window (r : FVec F S2048x7x16x22 .f32) (off : Fin 4 → Nat) (h : S2048x7x16x22.Slices off S2048x7x16x16) :
    FVec F S2048x7x1x16x16 .f32 :=
  broadcastInDim S2048x7x1x16x16 ![0, 1, 3, 4] bcast_S2048x7x16x16_S2048x7x1x16x16_0_1_3_4
    (extractStridedSlice S2048x7x16x16 off r h)

/-- The 7 by 7 shifted windows of a padded patch stacked: entry `(n, a, d, i, j)` is pixel `(i + a, j + d)`. -/
def windows (r : FVec F S2048x7x16x22 .f32) : FVec F S2048x7x7x16x16 .f32 :=
  concatenate S2048x7x7x16x16 2
    [⟨S2048x7x1x16x16, window r ![0, 0, 0, 0] slices_S2048x7x16x22_S2048x7x16x16_0_0_0_0⟩,
     ⟨S2048x7x1x16x16, window r ![0, 0, 0, 1] slices_S2048x7x16x22_S2048x7x16x16_0_0_0_1⟩,
     ⟨S2048x7x1x16x16, window r ![0, 0, 0, 2] slices_S2048x7x16x22_S2048x7x16x16_0_0_0_2⟩,
     ⟨S2048x7x1x16x16, window r ![0, 0, 0, 3] slices_S2048x7x16x22_S2048x7x16x16_0_0_0_3⟩,
     ⟨S2048x7x1x16x16, window r ![0, 0, 0, 4] slices_S2048x7x16x22_S2048x7x16x16_0_0_0_4⟩,
     ⟨S2048x7x1x16x16, window r ![0, 0, 0, 5] slices_S2048x7x16x22_S2048x7x16x16_0_0_0_5⟩,
     ⟨S2048x7x1x16x16, window r ![0, 0, 0, 6] slices_S2048x7x16x22_S2048x7x16x16_0_0_0_6⟩]
    concatenates_S2048x7x1x16x16_S2048x7x1x16x16_S2048x7x1x16x16_S2048x7x1x16x16_S2048x7x1x16x16_S2048x7x1x16x16_S2048x7x1x16x16_S2048x7x7x16x16_d2

/-- One number added at every pixel. -/
def onMaps (b : FVec F S1 .f32) : Maps F :=
  broadcastInDim S2048x1x16x16 ![0, 1, 2, 3] bcast_S1x1x1x1_S2048x1x16x16_0_1_2_3
    (broadcastInDim S1x1x1x1 ![1] bcast_S1_S1x1x1x1_1 b)

/-- A 7 by 7 convolution that keeps the size, as the windows contracted with the weights, plus the bias. -/
def conv (xp : FVec F S2048x22x22 .f32) (w : FVec F S1x1x7x7 .f32) (b : FVec F S1 .f32) : Maps F :=
  addf (broadcastInDim S2048x1x16x16 ![0, 2, 3] bcast_S2048x16x16_S2048x1x16x16_0_2_3
      (Host.dotGeneral dot_S2048x7x7x16x16_S7x7_S2048x16x16_12_01_034_n_n_n none (windows (rowBands xp))
        (shapeCast S7x7 w shapeCasts_S1x1x7x7_S7x7)))
    (onMaps b)

/-- Batch normalisation at mean 0 and variance 1. -/
def batchNorm (x : Maps F) (g bt : FVec F S1 .f32) : Maps F :=
  addf (mulf (Host.divf (subf x (broadcastInDim S2048x1x16x16 ![] bcast_S_S2048x1x16x16 (constant S_ .f32 0x00000000#32)))
      (broadcastInDim S2048x1x16x16 ![] bcast_S_S2048x1x16x16 (id (Host.sqrt (constant S_ .f32 0x3F800054#32)))))
    (onMaps g)) (onMaps bt)

/-- The positive part. -/
def relu (x : Maps F) : Maps F :=
  maximumf x (broadcastInDim S2048x1x16x16 ![] bcast_S_S2048x1x16x16 (constant S_ .f32 0x00000000#32))

/-- The sigmoid function. -/
def sigmoid (x : Maps F) : Maps F :=
  Host.divf (broadcastInDim S2048x1x16x16 ![] bcast_S_S2048x1x16x16 (constant S_ .f32 0x3F800000#32))
    (addf (broadcastInDim S2048x1x16x16 ![] bcast_S_S2048x1x16x16 (constant S_ .f32 0x3F800000#32))
      (Host.exp (Host.negf x)))

/-- A map times its weights over the temperature, a row of 256 pixels per patch. -/
def heated (x g : Maps F) : FVec F S2048x256 .f32 :=
  shapeCast S2048x256 (Host.divf (mulf x g)
    (broadcastInDim S2048x1x16x16 ![] bcast_S_S2048x1x16x16 (constant S_ .f32 0x3DCCCCCD#32)))
    shapeCasts_S2048x1x16x16_S2048x256

/-- The exponentials of a row less its maximum. -/
def expRows (z : FVec F S2048x256 .f32) : FVec F S2048x256 .f32 :=
  Host.exp (subf z (broadcastInDim S2048x256 ![0, 1] bcast_S2048x1_S2048x256_0_1
    (broadcastInDim S2048x1 ![0] bcast_S2048_S2048x1_0
      (maximumf (broadcastInDim S2048 ![] bcast_S_S2048 (constant S_ .f32 0xFF800000#32))
        (Host.reduce FloatOps.maximumf z (constant S_ .f32 0xFF800000#32) reducesTo_S2048x256_S2048_d1 h_S_)))))

/-- The softmax of each row, times the row's length. -/
def softRows (e : FVec F S2048x256 .f32) : FVec F S2048x16x16 .f32 :=
  shapeCast S2048x16x16 (mulf (broadcastInDim S2048x256 ![] bcast_S_S2048x256 (constant S_ .f32 0x43800000#32))
    (Host.divf e (broadcastInDim S2048x256 ![0, 1] bcast_S2048x1_S2048x256_0_1
      (broadcastInDim S2048x1 ![0] bcast_S2048_S2048x1_0
        (Host.reduceAdd e (constant S_ .f32 0x00000000#32) reducesTo_S2048x256_S2048_d1 h_S_)))))
    shapeCasts_S2048x256_S2048x16x16

/-- The spatial attention of every patch, from its energy map. -/
def spatial (fea : Maps F) (w₁ : FVec F S1x1x7x7 .f32) (b₁ g bt : FVec F S1 .f32) (w₂ : FVec F S1x1x7x7 .f32)
    (b₂ : FVec F S1 .f32) : FVec F S2048x16x16 .f32 :=
  softRows (expRows (heated fea (sigmoid (conv (padded (relu (batchNorm (conv (padded fea) w₁ b₁) g bt))) w₂ b₂))))

/-! ## The channel branch -/

/-- The hidden layer before its positive part. -/
def hidden (cm : FVec F S2048x96 .f32) (w : FVec F S6x96 .f32) (b : FVec F S6 .f32) : FVec F S2048x6 .f32 :=
  addf (Host.dotGeneral dot_S2048x96_S96x6_S2048x6_1_0_0_1_n_n none cm
      (transpose S96x6 [1, 0] w transposes_S6x96_S96x6_1_0))
    (broadcastInDim S2048x6 ![0, 1] bcast_S1x6_S2048x6_0_1 (broadcastInDim S1x6 ![1] bcast_S6_S1x6_1 b))

/-- The positive part of the hidden layer. -/
def hiddenRelu (x : FVec F S2048x6 .f32) : FVec F S2048x6 .f32 :=
  maximumf x (broadcastInDim S2048x6 ![] bcast_S_S2048x6 (constant S_ .f32 0x00000000#32))

/-- The channel weights: the second layer's sigmoid value. -/
def gates (hid : FVec F S2048x6 .f32) (w : FVec F S96x6 .f32) (b : FVec F S96 .f32) : FVec F S2048x96 .f32 :=
  Host.divf (broadcastInDim S2048x96 ![] bcast_S_S2048x96 (constant S_ .f32 0x3F800000#32))
    (addf (broadcastInDim S2048x96 ![] bcast_S_S2048x96 (constant S_ .f32 0x3F800000#32))
      (Host.exp (Host.negf (addf
        (Host.dotGeneral dot_S2048x6_S6x96_S2048x96_1_0_0_1_n_n none hid
          (transpose S6x96 [1, 0] w transposes_S96x6_S6x96_1_0))
        (broadcastInDim S2048x96 ![0, 1] bcast_S1x96_S2048x96_0_1 (broadcastInDim S1x96 ![1] bcast_S96_S1x96_1 b))))))

/-- The channel means times their weights over the temperature. -/
def heatedChannels (cm g : FVec F S2048x96 .f32) : FVec F S2048x96 .f32 :=
  Host.divf (mulf cm g) (broadcastInDim S2048x96 ![] bcast_S_S2048x96 (constant S_ .f32 0x3DCCCCCD#32))

/-- The exponentials of a row of channels less its maximum. -/
def expChannels (z : FVec F S2048x96 .f32) : FVec F S2048x96 .f32 :=
  Host.exp (subf z (broadcastInDim S2048x96 ![0, 1] bcast_S2048x1_S2048x96_0_1
    (broadcastInDim S2048x1 ![0] bcast_S2048_S2048x1_0
      (maximumf (broadcastInDim S2048 ![] bcast_S_S2048 (constant S_ .f32 0xFF800000#32))
        (Host.reduce FloatOps.maximumf z (constant S_ .f32 0xFF800000#32) reducesTo_S2048x96_S2048_d1 h_S_)))))

/-- The softmax of each row of channels, times the number of channels. -/
def softChannels (e : FVec F S2048x96 .f32) : FVec F S2048x96 .f32 :=
  mulf (broadcastInDim S2048x96 ![] bcast_S_S2048x96 (constant S_ .f32 0x42C00000#32))
    (Host.divf e (broadcastInDim S2048x96 ![0, 1] bcast_S2048x1_S2048x96_0_1
      (broadcastInDim S2048x1 ![0] bcast_S2048_S2048x1_0
        (Host.reduceAdd e (constant S_ .f32 0x00000000#32) reducesTo_S2048x96_S2048_d1 h_S_))))

/-- The channel attention of every patch, from its channel means. -/
def channel (cm : FVec F S2048x96 .f32) (w₁ : FVec F S6x96 .f32) (b₁ : FVec F S6 .f32) (w₂ : FVec F S96x6 .f32)
    (b₂ : FVec F S96 .f32) : FVec F S2048x96 .f32 :=
  softChannels (expChannels (heatedChannels cm (gates (hiddenRelu (hidden cm w₁ b₁)) w₂ b₂)))

/-! ## The score -/

/-- The weighted mean of the two attentions, a row of 1024 patches per image. -/
def mix (s : FVec F S2048x16x16 .f32) (k : FVec F S2048x96 .f32) : FVec F S2x1024 .f32 :=
  shapeCast S2x1024 (addf
    (mulf (broadcastInDim S2048x1 ![] bcast_S_S2048x1 (constant S_ .f32 0x3F333333#32))
      (broadcastInDim S2048x1 ![0] bcast_S2048_S2048x1_0
        (Host.divf (Host.reduceAdd s (constant S_ .f32 0x00000000#32) reducesTo_S2048x16x16_S2048_d1_2 h_S_)
          (broadcastInDim S2048 ![] bcast_S_S2048 (constant S_ .f32 0x43800000#32)))))
    (mulf (broadcastInDim S2048x1 ![] bcast_S_S2048x1 (constant S_ .f32 0x3E99999A#32))
      (broadcastInDim S2048x1 ![0] bcast_S2048_S2048x1_0
        (Host.divf (Host.reduceAdd k (constant S_ .f32 0x00000000#32) reducesTo_S2048x96_S2048_d1 h_S_)
          (broadcastInDim S2048 ![] bcast_S_S2048 (constant S_ .f32 0x42C00000#32))))))
    shapeCasts_S2048x1_S2x1024

/-- The scores of all patches from their energy maps (already with their running maximum), their channel means and the
weights of both branches. -/
def scores (fea : Maps F) (cm : FVec F S2048x96 .f32) (w₁ : FVec F S1x1x7x7 .f32) (b₁ g bt : FVec F S1 .f32)
    (w₂ : FVec F S1x1x7x7 .f32) (b₂ : FVec F S1 .f32) (l₁ : FVec F S6x96 .f32) (c₁ : FVec F S6 .f32)
    (l₂ : FVec F S96x6 .f32) (c₂ : FVec F S96 .f32) : FVec F S2x1024 .f32 :=
  mix (spatial fea w₁ b₁ g bt w₂ b₂) (channel cm l₁ c₁ l₂ c₂)

end Cert.Scores

end
-- ==== Proof.KernelScores.lean ====
/-
  What the kernel's host program holds before its first call: the scores of all patches, as one function of the
  arguments.  Each segment of the program is read once, from arbitrary contents; the boundaries then chain.
-/
module

public import proofs.«01_k».proof.Proof.Gen.KernelIdeal.Frame
public import proofs.«01_k».proof.Proof.Scores

@[expose] public section

set_option maxRecDepth 16384

noncomputable section

namespace Cert.KernelSide

open Idealize.ShloMosaic Idealize.ShloMosaic.TcCoe
open Idealize.ShloMosaic.StableHlo
open Cert.KernelIdeal Cert.KernelIdeal.Gen Cert.Scores

variable {F : FTy → Type} [FloatOps F]

/-- The energy map as the kernel's program forms it: the mean square over the channels, then cut into patches. -/
def energy (x : FVec F S2x96x512x512 .f32) : Maps F :=
  shapeCast S2048x1x16x16
    (transpose S2x32x32x16x16 [0, 1, 3, 2, 4]
      (shapeCast S2x32x16x32x16
        (Host.divf (Host.reduceAdd (mulf x x) (constant S_ .f32 0x00000000#32) reducesTo_S2x96x512x512_S2x512x512_d1 h_S_)
          (broadcastInDim S2x512x512 ![] bcast_S_S2x512x512 (constant S_ .f32 0x42C00000#32)))
        shapeCasts_S2x512x512_S2x32x16x32x16)
      transposes_S2x32x16x32x16_S2x32x32x16x16_0_1_3_2_4)
    shapeCasts_S2x32x32x16x16_S2048x1x16x16

/-- The channel means as the kernel's program forms them: over the rows of a patch, then over its columns, then cut
into patches. -/
def channelMeans (x : FVec F S2x96x512x512 .f32) : FVec F S2048x96 .f32 :=
  shapeCast S2048x96
    (transpose S2x32x32x96 [0, 2, 3, 1]
      (Host.divf (Host.reduceAdd
          (Host.divf (Host.reduceAdd (shapeCast S2x96x32x16x32x16 (mulf x x) shapeCasts_S2x96x512x512_S2x96x32x16x32x16)
              (constant S_ .f32 0x00000000#32) reducesTo_S2x96x32x16x32x16_S2x96x32x32x16_d3 h_S_)
            (broadcastInDim S2x96x32x32x16 ![] bcast_S_S2x96x32x32x16 (constant S_ .f32 0x41800000#32)))
          (constant S_ .f32 0x00000000#32) reducesTo_S2x96x32x32x16_S2x96x32x32_d4 h_S_)
        (broadcastInDim S2x96x32x32 ![] bcast_S_S2x96x32x32 (constant S_ .f32 0x41800000#32)))
      transposes_S2x96x32x32_S2x32x32x96_0_2_3_1)
    shapeCasts_S2x32x32x96_S2048x96

/-! ## Each segment, from arbitrary contents -/

section Segments

variable (V : Valuation τ sig (Elt F))

theorem seg0_v9 : after hostOps0 V (Proc.devRef .tc main_v9) = pooled (energy (V (Proc.devRef .tc main_arg0))) := by
  simp only [hostOps0]
  after_results_simp
  rfl

theorem seg0_v10 : after hostOps0 V (Proc.devRef .tc main_v10)
    = shapeCast S2048x16x16 (pooled (energy (V (Proc.devRef .tc main_arg0)))) shapeCasts_S2048x1x16x16_S2048x16x16 := by
  simp only [hostOps0]
  after_results_simp
  rfl

theorem seg0_c : after hostOps0 V (Proc.devRef .tc main_c) = constantI S_ 32 0#32 := by
  simp only [hostOps0]
  after_results_simp

theorem seg1_v11 : after hostOps0_1 V (Proc.devRef .tc main_v11)
    = pad S2048x22x22 ![0, 3, 3] ![0, 3, 3] ![0, 0, 0] (V (Proc.devRef .tc main_v10) : FVec F S2048x16x16 .f32)
      (sitofp .f32 (V (Proc.devRef .tc main_c) : S_.Idx → BitVec 32)) pads_S2048x16x16_S2048x22x22_000_330_330 h_S_ := by
  simp only [hostOps0_1, TRef.unary, TRef.binary, TRef.ternary, TRef.toBuf, TRef.ofBuf, cast_eq]
  after_results_simp

set_option maxHeartbeats 4000000 in
theorem seg2_v59 : after hostOps0_2 V (Proc.devRef .tc main_v59)
    = batchNorm (conv (V (Proc.devRef .tc main_v11)) (V (Proc.devRef .tc main_arg1)) (V (Proc.devRef .tc main_arg2)))
        (V (Proc.devRef .tc main_arg3)) (V (Proc.devRef .tc main_arg4)) := by
  simp only [hostOps0_2]
  after_results_simp
  rfl

theorem seg3_v60 : after hostOps0_3 V (Proc.devRef .tc main_v60) = relu (V (Proc.devRef .tc main_v59)) := by
  simp only [hostOps0_3, TRef.nullary, TRef.unary, TRef.binary, TRef.ternary, TRef.toBuf, TRef.ofBuf, cast_eq]
  after_results_simp
  rfl

theorem seg4_v61 : after hostOps0_4 V (Proc.devRef .tc main_v61)
    = shapeCast S2048x16x16 (V (Proc.devRef .tc main_v60) : Maps F) shapeCasts_S2048x1x16x16_S2048x16x16 := by
  simp only [hostOps0_4]
  after_results_simp
  rfl

theorem seg4_c : after hostOps0_4 V (Proc.devRef .tc main_c_4) = constantI S_ 32 0#32 := by
  simp only [hostOps0_4]
  after_results_simp

theorem seg5_v62 : after hostOps0_5 V (Proc.devRef .tc main_v62)
    = pad S2048x22x22 ![0, 3, 3] ![0, 3, 3] ![0, 0, 0] (V (Proc.devRef .tc main_v61) : FVec F S2048x16x16 .f32)
      (sitofp .f32 (V (Proc.devRef .tc main_c_4) : S_.Idx → BitVec 32)) pads_S2048x16x16_S2048x22x22_000_330_330 h_S_ := by
  simp only [hostOps0_5, TRef.unary, TRef.binary, TRef.ternary, TRef.toBuf, TRef.ofBuf, cast_eq]
  after_results_simp

set_option maxHeartbeats 4000000 in
theorem seg6_v122 : after hostOps0_6 V (Proc.devRef .tc main_v122)
    = softRows (expRows (heated (V (Proc.devRef .tc main_v9))
        (sigmoid (conv (V (Proc.devRef .tc main_v62)) (V (Proc.devRef .tc main_arg5)) (V (Proc.devRef .tc main_arg6)))))) := by
  simp only [hostOps0_6]
  after_results_simp
  rfl

set_option maxHeartbeats 4000000 in
theorem seg6_v133 : after hostOps0_6 V (Proc.devRef .tc main_v133) = channelMeans (V (Proc.devRef .tc main_arg0)) := by
  simp only [hostOps0_6]
  after_results_simp
  rfl

set_option maxHeartbeats 4000000 in
theorem seg6_v138 : after hostOps0_6 V (Proc.devRef .tc main_v138)
    = hidden (channelMeans (V (Proc.devRef .tc main_arg0))) (V (Proc.devRef .tc main_arg7)) (V (Proc.devRef .tc main_arg8)) := by
  simp only [hostOps0_6]
  after_results_simp
  rfl

theorem seg7_v139 : after hostOps0_7 V (Proc.devRef .tc main_v139) = hiddenRelu (V (Proc.devRef .tc main_v138)) := by
  simp only [hostOps0_7, TRef.nullary, TRef.unary, TRef.binary, TRef.ternary, TRef.toBuf, TRef.ofBuf, cast_eq]
  after_results_simp
  rfl

set_option maxHeartbeats 4000000 in
theorem seg8_v180 : after hostOps0_8 V (Proc.devRef .tc main_v180)
    = mix (V (Proc.devRef .tc main_v122)) (softChannels (expChannels (heatedChannels (V (Proc.devRef .tc main_v133))
        (gates (V (Proc.devRef .tc main_v139)) (V (Proc.devRef .tc main_arg9)) (V (Proc.devRef .tc main_arg10)))))) := by
  simp only [hostOps0_8]
  after_results_simp
  rfl

set_option maxHeartbeats 4000000 in
theorem seg8_v181 : after hostOps0_8 V (Proc.devRef .tc main_v181)
    = transpose S1024x2 [1, 0] (after hostOps0_8 V (Proc.devRef .tc main_v180) : FVec F S2x1024 .f32)
        transposes_S2x1024_S1024x2_1_0 := by
  rw [seg8_v180]
  simp only [hostOps0_8]
  after_results_simp
  rfl

end Segments

section Boundaries

variable (m : (ℓ : Loc nD τ sig) → Buf (Elt F) ℓ) (ρ : Dev nD → PrngReg) (c : Dev nD)

/-- An argument of the program, as the memory first holds it. -/
abbrev arg (a : Ref sig .tc) : Buf (Elt F) ((c : Thread nD τ).loc a) := m ((c : Thread nD τ).loc a)

/-- The energy map with its running maximum, kept up to the second convolution. -/
theorem W6_v9 : W6 m ρ c (Proc.devRef .tc main_v9) = pooled (energy (arg m c main_arg0)) := by
  rw [W6_of m ρ c _ (by decide), W5_of m ρ c _ (by decide), W4_of m ρ c _ (by decide), W3_of m ρ c _ (by decide),
    W2_of m ρ c _ (by decide)]
  exact seg0_v9 _

/-- The first convolution's padded image. -/
theorem W2_v11 : W2 m ρ c (Proc.devRef .tc main_v11) = padded (pooled (energy (arg m c main_arg0))) := by
  refine (seg1_v11 _).trans ?_
  rw [show W1 m ρ c (Proc.devRef .tc main_v10) = _ from seg0_v10 _, show W1 m ρ c (Proc.devRef .tc main_c) = _ from seg0_c _]
  rfl

/-- The second convolution's padded image. -/
theorem W6_v62 : W6 m ρ c (Proc.devRef .tc main_v62)
    = padded (relu (batchNorm (conv (padded (pooled (energy (arg m c main_arg0)))) (arg m c main_arg1) (arg m c main_arg2))
        (arg m c main_arg3) (arg m c main_arg4))) := by
  refine (seg5_v62 _).trans ?_
  rw [show W5 m ρ c (Proc.devRef .tc main_v61) = _ from seg4_v61 _, show W5 m ρ c (Proc.devRef .tc main_c_4) = _ from seg4_c _,
    show W4 m ρ c (Proc.devRef .tc main_v60) = _ from seg3_v60 _, show W3 m ρ c (Proc.devRef .tc main_v59) = _ from seg2_v59 _,
    W2_v11, W2_args m ρ c main_arg1 (by decide), W2_args m ρ c main_arg2 (by decide), W2_args m ρ c main_arg3 (by decide),
    W2_args m ρ c main_arg4 (by decide)]
  rfl

/-- The scores of all patches, from the program's arguments. -/
def score : FVec F S2x1024 .f32 :=
  scores (pooled (energy (arg m c main_arg0))) (channelMeans (arg m c main_arg0)) (arg m c main_arg1) (arg m c main_arg2)
    (arg m c main_arg3) (arg m c main_arg4) (arg m c main_arg5) (arg m c main_arg6) (arg m c main_arg7) (arg m c main_arg8)
    (arg m c main_arg9) (arg m c main_arg10)

/-- The scores before the first call. -/
theorem W9_v180 : W9 m ρ c (Proc.devRef .tc main_v180) = score m c := by
  refine (seg8_v180 _).trans ?_
  rw [W8_of m ρ c main_v122 (by decide), W8_of m ρ c main_v133 (by decide),
    show W8 m ρ c (Proc.devRef .tc main_v139) = _ from seg7_v139 _,
    show W7 m ρ c (Proc.devRef .tc main_v122) = _ from seg6_v122 _, show W7 m ρ c (Proc.devRef .tc main_v133) = _ from seg6_v133 _,
    show W7 m ρ c (Proc.devRef .tc main_v138) = _ from seg6_v138 _, W6_v9, W6_v62,
    W6_args m ρ c main_arg0 (by decide), W6_args m ρ c main_arg5 (by decide), W6_args m ρ c main_arg6 (by decide),
    W6_args m ρ c main_arg7 (by decide), W6_args m ρ c main_arg8 (by decide), W8_args m ρ c main_arg9 (by decide),
    W8_args m ρ c main_arg10 (by decide)]
  rfl

/-- The scores before the first call, one column per image. -/
theorem W9_v181 : W9 m ρ c (Proc.devRef .tc main_v181)
    = transpose S1024x2 [1, 0] (score m c) transposes_S2x1024_S1024x2_1_0 :=
  (seg8_v181 _).trans (congrArg (fun s => transpose S1024x2 [1, 0] s transposes_S2x1024_S1024x2_1_0) (W9_v180 m ρ c))

end Boundaries

end Cert.KernelSide

end
-- ==== Proof.KernelSelect.lean ====
/-
  The first call, read: it leaves a 1 at the places whose score has at least 512 places before it, a 0 at the others.
-/
module

public import proofs.«01_k».proof.Proof.Rank
public import proofs.«01_k».proof.Proof.KernelScores
public import Idealize.ShloMosaic.Lib.Pipeline.ValueKit
public import Idealize.ShloMosaic.Lib.WordSum

@[expose] public section

set_option maxRecDepth 16384

noncomputable section

namespace Cert.KernelSide

open Idealize.ShloMosaic hiding ix1 ix2 ix3 ix4 ix5 ix6
open Idealize.ShloMosaic.ValueIdx Idealize.ShloMosaic.TcCoe
open Cert.KernelIdeal Cert.KernelIdeal.Gen Cert.Select

/-- What the mask holds at a place of scores `s`: 0 at the 512 lowest, 1 at the others. -/
def mark (s : Fin 1024 → EReal) (l : Fin 1024) : Ideal .f32 :=
  if rank s l < 512 then Scalar.ofBits .f32 0x00000000#32 else Scalar.ofBits .f32 0x3F800000#32

/-- One bit of the count: whether place `j` comes before place `i`. -/
def beforeWord (x y : EReal) (j i : BitVec 32) : BitVec 32 :=
  (Ideal.cmp .olt x y).setWidth 32 + ((Ideal.cmp .oeq x y) &&& (IntOp.cmpi .slt j i)).setWidth 32

theorem toInt_small (n : Nat) (h : n < 1024) : (BitVec.ofNat 32 n).toInt = n := by
  have e : (BitVec.ofNat 32 n).toNat = n := by rw [BitVec.toNat_ofNat, Nat.mod_eq_of_lt (by omega)]
  rw [BitVec.toInt_eq_toNat_of_lt (by rw [e]; omega), e]

theorem beforeWord_toNat (s : Fin 1024 → EReal) (j i : Fin 1024) :
    (beforeWord (s j) (s i) (BitVec.ofNat 32 j.val) (BitVec.ofNat 32 i.val)).toNat = if Precedes s j i then 1 else 0 := by
  have hlt : IntOp.cmpi .slt (BitVec.ofNat 32 j.val) (BitVec.ofNat 32 i.val) = BitVec.ofBool (decide (j < i)) := by
    show BitVec.ofBool (BitVec.slt _ _) = _
    rw [BitVec.slt_eq_decide, toInt_small j.val (by omega), toInt_small i.val (by omega)]
    exact congrArg BitVec.ofBool (decide_eq_decide.2 (by rw [Fin.lt_def]; omega))
  unfold beforeWord
  rw [hlt]
  show ((BitVec.ofBool (decide (s j < s i))).setWidth 32
    + (BitVec.ofBool (decide (s j = s i)) &&& BitVec.ofBool (decide (j < i))).setWidth 32).toNat = _
  unfold Precedes
  by_cases h₁ : s j < s i
  · have h₂ : ¬ s j = s i := ne_of_lt h₁
    by_cases h₃ : j < i <;> simp [h₁, h₂, h₃]
  · by_cases h₂ : s j = s i <;> by_cases h₃ : j < i <;> simp [h₁, h₂, h₃]

/-- The count of a place, from a row and a column of the same scores. -/
theorem count_apply (r : FVec Ideal S1x1024 .f32) (k : FVec Ideal S1024x1 .f32) (s : Fin 1024 → EReal)
    (hr : ∀ j, r (ix2 (0 : Fin 1) j) = s j) (hk : ∀ i, k (ix2 i (0 : Fin 1)) = s i) (i : Fin 1024) :
    (k0_pay3 (F := Ideal) r k (ix2 i (0 : Fin 1))).toNat = rank s i := by
  have hterm : ∀ j : Fin 1024,
      (addi (extui 32 (cmpf (F := Ideal) .olt (broadcastTo S1024x1024 (shapeCast S1x1024 r shapeCasts_S1x1024_S1x1024) broadcasts_S1x1024_S1024x1024)
          (broadcastTo S1024x1024 (shapeCast S1024x1 k shapeCasts_S1024x1_S1024x1) broadcasts_S1024x1_S1024x1024)) natLt_1_32)
        (extui 32 (andi (cmpf (F := Ideal) .oeq (broadcastTo S1024x1024 (shapeCast S1x1024 r shapeCasts_S1x1024_S1x1024) broadcasts_S1x1024_S1024x1024)
          (broadcastTo S1024x1024 (shapeCast S1024x1 k shapeCasts_S1024x1_S1024x1) broadcasts_S1024x1_S1024x1024))
          (cmpi .slt (iota .tc S1024x1024 32 [1] iota_S1024x1024_d1_w32) (iota .tc S1024x1024 32 [0] iota_S1024x1024_d0_w32))) natLt_1_32)
        (ix2 i j)).toNat = if Precedes s j i then 1 else 0 := fun j => by
    refine Eq.trans (congrArg BitVec.toNat ?_) (beforeWord_toNat s j i)
    rw [shapeCast_self, shapeCast_self]
    have e₁ : broadcastTo S1024x1024 r broadcasts_S1x1024_S1024x1024 (ix2 i j) = s j :=
      (broadcastTo_apply r _ _ (ix2 (0 : Fin 1) j) fun a => by
        match a with
        | ⟨0, _⟩ => rfl
        | ⟨1, _⟩ => rfl).trans (hr j)
    have e₂ : broadcastTo S1024x1024 k broadcasts_S1024x1_S1024x1024 (ix2 i j) = s i :=
      (broadcastTo_apply k _ _ (ix2 i (0 : Fin 1)) fun a => by
        match a with
        | ⟨0, _⟩ => rfl
        | ⟨1, _⟩ => rfl).trans (hk i)
    have e₃ : iota .tc S1024x1024 32 [1] iota_S1024x1024_d1_w32 (ix2 i j) = BitVec.ofNat 32 j.val := iota_single_apply _ _ _ _ _ _
    have e₄ : iota .tc S1024x1024 32 [0] iota_S1024x1024_d0_w32 (ix2 i j) = BitVec.ofNat 32 i.val := iota_single_apply _ _ _ _ _ _
    show beforeWord (broadcastTo S1024x1024 r broadcasts_S1x1024_S1024x1024 (ix2 i j))
      (broadcastTo S1024x1024 k broadcasts_S1024x1_S1024x1024 (ix2 i j)) (iota .tc S1024x1024 32 [1] iota_S1024x1024_d1_w32 (ix2 i j))
      (iota .tc S1024x1024 32 [0] iota_S1024x1024_d0_w32 (ix2 i j)) = _
    rw [e₁, e₂, e₃, e₄]
  unfold k0_pay3
  rw [shapeCast_apply _ shapeCasts_S1024_S1024x1 (ix2 i (0 : Fin 1)) (ix1 i) (by
    rw [Shape.rowMajor_val_one, Shape.rowMajor_val_two]; show i.val = i.val * 1 + 0; omega)]
  have hsum : ∀ h : S1024x1024.Reduces [1] S1024, ∀ g : IVec S1024x1024 32, (∀ j : Fin 1024, (g (ix2 i j)).toNat = if Precedes s j i then 1 else 0) →
      ∑ p ∈ Finset.univ.filter (fun p => h.drop p = ix1 i), (g p).toNat = rank s i := fun h g hg => by
    rw [h.sum_filter_drop_single]
    show ∑ j : Fin 1024, (g (h.lift (ix1 i) j)).toNat = _
    unfold rank
    rw [Finset.card_filter]
    refine Finset.sum_congr rfl fun j _ => ?_
    refine Eq.trans (congrArg (fun q => (g q).toNat) (funext fun a => Fin.ext ?_)) (hg j)
    match a with
    | ⟨0, _⟩ => rfl
    | ⟨1, _⟩ => rfl
  have hS := hsum reduces_S1024x1024_S1024 _ hterm
  exact (WordSum.toNat_multiReductionI_add _ _ rfl (ix1 i) (by rw [hS]; exact lt_trans (rank_lt s i) (by norm_num))).trans hS

/-- The mask's column, from the counts. -/
theorem mark_apply (r : FVec Ideal S1x1024 .f32) (k : FVec Ideal S1024x1 .f32) (s : Fin 1024 → EReal)
    (hr : ∀ j, r (ix2 (0 : Fin 1) j) = s j) (hk : ∀ i, k (ix2 i (0 : Fin 1)) = s i) (i : Fin 1024) :
    k0_pay1 (F := Ideal) (k0_pay3 (F := Ideal) r k) k0_pay4 (ix2 i (0 : Fin 1)) = mark s i := by
  have h := count_apply r k s hr hk i
  have hlt : rank s i < 1024 := rank_lt s i
  generalize k0_pay3 (F := Ideal) r k = w at h ⊢
  show Scalar.select (IntOp.cmpi .sge (w (ix2 i (0 : Fin 1))) 512#32) (Scalar.ofBits (F := Ideal) .f32 0x3F800000#32)
    (Scalar.ofBits (F := Ideal) .f32 0x00000000#32) = _
  rw [show w (ix2 i (0 : Fin 1)) = BitVec.ofNat 32 (rank s i) from
    BitVec.eq_of_toNat_eq (by rw [h, BitVec.toNat_ofNat, Nat.mod_eq_of_lt (by omega)])]
  have hb : IntOp.cmpi .sge (BitVec.ofNat 32 (rank s i)) 512#32 = BitVec.ofBool (decide (512 ≤ rank s i)) := by
    show BitVec.ofBool (BitVec.sle 512#32 _) = _
    rw [BitVec.sle_eq_decide, show (512#32 : BitVec 32).toInt = 512 from by decide,
      toInt_small _ hlt]
    exact congrArg BitVec.ofBool (decide_eq_decide.2 (by omega))
  rw [hb]
  unfold mark
  by_cases hc : rank s i < 512
  · rw [if_pos hc, decide_eq_false (by omega)]
    rfl
  · rw [if_neg hc, decide_eq_true (by omega)]
    rfl

section Region

variable (m : (ℓ : Loc nD τ sig) → Buf (Elt Ideal) ℓ) (ρ : Dev nD → PrngReg) (c : Dev nD)

/-- The scores of one image's places. -/
def scoresOf (b : Fin 2) (l : Fin 1024) : EReal := score m c (ix2 b l)

/-- The first call's mask, column by column. -/
def marks : FVec Ideal S1024x2 .f32 := fun p => mark (scoresOf m c (p 1)) (p 0)

theorem index_rows : ∀ (t : Fin cfg0.N) (a : Fin 2), win0_0.index t a = 0 := by decide +kernel

theorem index_columns : ∀ (t : Fin cfg0.N) (a : Fin 2), win0_1.index t a = 0 := by decide +kernel

theorem index_marks : ∀ (t : Fin cfg0.N) (a : Fin 2), win0_2.index t a = 0 := by decide +kernel

theorem block_rows (t : Fin cfg0.N) : iblk0 (V9 m ρ) c 0 t = score m c := by
  refine Eq.trans ?_ (W9_v180 m ρ c)
  funext y
  blk_simp [iblk0]
  exact congrArg _ (funext fun a => Fin.ext (by blk_simp [index_rows t a]))

theorem block_columns (t : Fin cfg0.N) :
    iblk0 (V9 m ρ) c 1 t = transpose S1024x2 [1, 0] (score m c) transposes_S2x1024_S1024x2_1_0 := by
  refine Eq.trans ?_ (W9_v181 m ρ c)
  funext y
  blk_simp [iblk0]
  exact congrArg _ (funext fun a => Fin.ext (by blk_simp [index_columns t a]))

theorem unitColumn (x : S1024x1.Idx) : x = ix2 (x 0 : Fin 1024) (0 : Fin 1) :=
  (ValueIdx.eq_ix2 x).trans (congrArg (fun z : Fin 1 => ix2 (x 0 : Fin 1024) z) (Subsingleton.elim _ _))

theorem column_first (x : S1024x1.Idx) :
    k0_pay2 (F := Ideal) (View.ld (score m c) r0_0) (View.ld (transpose S1024x2 [1, 0] (score m c) transposes_S2x1024_S1024x2_1_0) r0_1) x
      = marks m c (r0_1.emb x) := by
  obtain ⟨l, rfl⟩ : ∃ l : Fin 1024, x = ix2 l (0 : Fin 1) := ⟨x 0, unitColumn x⟩
  have hr : ∀ j : Fin 1024, View.ld (Val := Elt Ideal) (e' := .f32) (score m c) r0_0 (ix2 (0 : Fin 1) j) = scoresOf m c 0 j := fun j => by
    refine congrArg (score m c) (funext fun a => Fin.ext ?_)
    match a with
    | ⟨0, _⟩ => rfl
    | ⟨1, _⟩ => exact (Nat.zero_add _).trans (Nat.one_mul _)
  have hk : ∀ i : Fin 1024, View.ld (Val := Elt Ideal) (e' := .f32)
      (transpose S1024x2 [1, 0] (score m c) transposes_S2x1024_S1024x2_1_0) r0_1 (ix2 i (0 : Fin 1)) = scoresOf m c 0 i := fun i => by
    refine transpose_apply _ (score m c) _ _ (ix2 (0 : Fin 2) i) fun b => ?_
    match b with
    | ⟨0, _⟩ => exact ((Nat.zero_add _).trans (Nat.one_mul _)).symm
    | ⟨1, _⟩ => rfl
  have he : r0_1.emb (ix2 l (0 : Fin 1)) = ix2 l (0 : Fin 2) := funext fun a => Fin.ext (by
    match a with
    | ⟨0, _⟩ => exact (Nat.zero_add _).trans (Nat.one_mul _)
    | ⟨1, _⟩ => rfl)
  exact (mark_apply _ _ _ hr hk l).trans (congrArg (marks m c) he).symm

theorem column_second (x : S1024x1.Idx) :
    k0_pay1 (F := Ideal) (k0_pay3 (F := Ideal) (View.ld (score m c) r0_2)
        (View.ld (transpose S1024x2 [1, 0] (score m c) transposes_S2x1024_S1024x2_1_0) r0_3)) k0_pay4 x
      = marks m c (r0_3.emb x) := by
  obtain ⟨l, rfl⟩ : ∃ l : Fin 1024, x = ix2 l (0 : Fin 1) := ⟨x 0, unitColumn x⟩
  have hr : ∀ j : Fin 1024, View.ld (Val := Elt Ideal) (e' := .f32) (score m c) r0_2 (ix2 (0 : Fin 1) j) = scoresOf m c 1 j := fun j => by
    refine congrArg (score m c) (funext fun a => Fin.ext ?_)
    match a with
    | ⟨0, _⟩ => rfl
    | ⟨1, _⟩ => exact (Nat.zero_add _).trans (Nat.one_mul _)
  have hk : ∀ i : Fin 1024, View.ld (Val := Elt Ideal) (e' := .f32)
      (transpose S1024x2 [1, 0] (score m c) transposes_S2x1024_S1024x2_1_0) r0_3 (ix2 i (0 : Fin 1)) = scoresOf m c 1 i := fun i => by
    refine transpose_apply _ (score m c) _ _ (ix2 (1 : Fin 2) i) fun b => ?_
    match b with
    | ⟨0, _⟩ => exact ((Nat.zero_add _).trans (Nat.one_mul _)).symm
    | ⟨1, _⟩ => rfl
  have he : r0_3.emb (ix2 l (0 : Fin 1)) = ix2 l (1 : Fin 2) := funext fun a => Fin.ext (by
    match a with
    | ⟨0, _⟩ => exact (Nat.zero_add _).trans (Nat.one_mul _)
    | ⟨1, _⟩ => rfl)
  exact (mark_apply _ _ _ hr hk l).trans (congrArg (marks m c) he).symm

theorem twoColumns (p₀ p₁ : S1024x1.Idx → Elt Ideal .f32) (G : S1024x2.Idx → Elt Ideal .f32)
    (h₀ : ∀ x, p₀ x = G (r0_3.emb x)) (h₁ : ∀ x, p₁ x = G (r0_1.emb x)) :
    View.canon ([⟨r0_3, p₀⟩, ⟨r0_1, p₁⟩] : List (View.Piece (Elt Ideal) S1024x2 .f32)) = G := by
  funext y
  refine View.canon_apply_of_pieces G _ ?_ y (cover0_2 (F := Ideal) p₀ p₁ y)
  refine List.forall_mem_cons.2 ⟨fun x => h₀ x, List.forall_mem_cons.2 ⟨fun x => h₁ x, fun _ h => ?_⟩⟩
  exact absurd h List.not_mem_nil

theorem out_marks :
    out0_2 (F := Ideal) (score m c) (transpose S1024x2 [1, 0] (score m c) transposes_S2x1024_S1024x2_1_0) = marks m c :=
  twoColumns _ _ _ (column_second m c) (column_first m c)

/-- The first call leaves the mask. -/
theorem W10_v182 : W10 m ρ c (Proc.devRef .tc main_v182) = marks m c := by
  refine (W10_arr m ρ c 2).trans ?_
  refine (dat0 (V9 m ρ) c).arrAt_eq_of_covers 2 _ (by decide +kernel) fun t hf y => ?_
  have hy : ((cfg0.win 2).blk t).view.emb y = y := funext fun a => Fin.ext (by blk_simp [index_marks t a])
  rw [hy]
  blk_simp
  rw [after0_2, block_rows, block_columns, out_marks]

end Region

end Cert.KernelSide

end
-- ==== Proof.KernelMask.lean ====
/-
  The second call, read: every pixel of the result takes its patch's mark, in every channel.
-/
module

public import proofs.«01_k».proof.Proof.KernelSelect
public import proofs.«01_k».proof.Proof.KernelRun

@[expose] public section

set_option maxRecDepth 16384

noncomputable section

namespace Cert.KernelSide

open Idealize.ShloMosaic hiding ix1 ix2 ix3 ix4 ix5 ix6
open Idealize.ShloMosaic.ValueIdx Idealize.ShloMosaic.TcCoe
open Idealize.ShloMosaic.StableHlo
open Cert.KernelIdeal Cert.KernelIdeal.Gen Cert.Select

/-- The patch a pixel lies in. -/
def place (h w : Fin 512) : Fin 1024 := ⟨h.val / 16 * 32 + w.val / 16, by omega⟩

variable (m : (ℓ : Loc nD τ sig) → Buf (Elt Ideal) ℓ) (ρ : Dev nD → PrngReg) (c : Dev nD)

/-- The result: each pixel's patch's mark. -/
def result : FVec Ideal S2x96x512x512 .f32 := fun p => mark (scoresOf m c (p 0)) (place (p 2) (p 3))

/-- The marks, stretched over the columns of each row of patches. -/
def stretched (x : FVec Ideal S1024x2 .f32) : FVec Ideal S2x32x1x512 .f32 :=
  shapeCast S2x32x1x512 (shapeCast S2x32x512 (broadcastInDim S2x32x32x16 ![0, 1, 2] bcast_S2x32x32_S2x32x32x16_0_1_2
    (shapeCast S2x32x32 (transpose S2x1024 [1, 0] x transposes_S1024x2_S2x1024_1_0) shapeCasts_S2x1024_S2x32x32))
    shapeCasts_S2x32x32x16_S2x32x512) shapeCasts_S2x32x512_S2x32x1x512

theorem W11_v187 : W11 m ρ c (Proc.devRef .tc main_v187) = stretched (marks m c) := by
  rw [← W10_v182 m ρ c]
  show StableHlo.after hostOps1 (W10 m ρ c) (Proc.devRef .tc main_v187) = _
  generalize W10 m ρ c = V
  simp only [hostOps1, StableHlo.TRef.unary, TRef.binary, TRef.ternary, TRef.toBuf, TRef.ofBuf, cast_eq]
  after_results_simp
  rfl

theorem stretched_apply (x : FVec Ideal S1024x2 .f32) (n : Fin 2) (p : Fin 32) (q : Fin 512) :
    stretched x (ix4 n p (0 : Fin 1) q) = x (ix2 (⟨p.val * 32 + q.val / 16, by omega⟩ : Fin 1024) n) := by
  unfold stretched
  refine (shapeCast_apply _ _ _ (ix3 n p q) ?_).trans ?_
  · rw [Shape.rowMajor_val_three, Shape.rowMajor_val_four]
    show (n.val * 32 + p.val) * 512 + q.val = ((n.val * 32 + p.val) * 1 + 0) * 512 + q.val
    omega
  refine (shapeCast_apply _ _ _ (ix4 n p (⟨q.val / 16, by omega⟩ : Fin 32) (⟨q.val % 16, by omega⟩ : Fin 16)) ?_).trans ?_
  · rw [Shape.rowMajor_val_four, Shape.rowMajor_val_three]
    show ((n.val * 32 + p.val) * 32 + q.val / 16) * 16 + q.val % 16 = (n.val * 32 + p.val) * 512 + q.val
    omega
  refine (broadcastInDim_apply _ _ _ _ (ix3 n p (⟨q.val / 16, by omega⟩ : Fin 32)) fun a => ?_).trans ?_
  · match a with
    | ⟨0, _⟩ => rfl
    | ⟨1, _⟩ => rfl
    | ⟨2, _⟩ => rfl
  refine (shapeCast_apply _ _ _ (ix2 n (⟨p.val * 32 + q.val / 16, by omega⟩ : Fin 1024)) ?_).trans ?_
  · rw [Shape.rowMajor_val_two, Shape.rowMajor_val_three]
    show n.val * 1024 + (p.val * 32 + q.val / 16) = (n.val * 32 + p.val) * 32 + q.val / 16
    omega
  refine transpose_apply _ x _ _ _ fun b => ?_
  match b with
  | ⟨0, _⟩ => rfl
  | ⟨1, _⟩ => rfl

theorem index_in : ∀ t : Fin cfg1.N, win1_0.index t = ![(grid1.coords t 0).val, (grid1.coords t 1).val, 0, 0] :=
  (by decide +kernel : ∀ t : Fin grid1.N, _)

theorem index_out : ∀ t : Fin cfg1.N, win1_1.index t = ![(grid1.coords t 0).val, 0, (grid1.coords t 1).val, 0] :=
  (by decide +kernel : ∀ t : Fin grid1.N, _)

/-- The second call's payload: one row of marks, in every channel and row of its patch row. -/
theorem spread_apply (x : FVec Ideal S1x1x1x512 .f32) (y : S1x96x16x512.Idx) :
    k1_pay1 (F := Ideal) x y = x (ix4 (0 : Fin 1) (0 : Fin 1) (0 : Fin 1) (y 3 : Fin 512)) := by
  unfold k1_pay1
  rw [shapeCast_self, shapeCast_self]
  refine broadcastTo_apply x _ _ _ fun a => ?_
  match a with
  | ⟨0, _⟩ => rfl
  | ⟨1, _⟩ => rfl
  | ⟨2, _⟩ => rfl
  | ⟨3, _⟩ => rfl

/-- The kernel's result. -/
theorem W12_v188 : W12 m ρ c (Proc.devRef .tc main_v188) = result m c := by
  refine (result_eq m ρ c).trans ?_
  refine (dat1 (V11 m ρ) c).arrAt_eq_of_covers 1 _ (by decide +kernel) fun t hf y => ?_
  blk_simp
  rw [after1_1]
  frame_out
  refine (spread_apply _ _).trans ?_
  blk_simp [iblk1]
  refine (congrFun (W11_v187 m ρ c) _).trans ?_
  have hi : (win1_0.blk t).view.emb (ix4 (0 : Fin 1) (0 : Fin 1) (0 : Fin 1) (y 3 : Fin 512))
      = ix4 (⟨(grid1.coords t 0).val, (grid1.coords t 0).isLt⟩ : Fin 2) (⟨(grid1.coords t 1).val, (grid1.coords t 1).isLt⟩ : Fin 32) (0 : Fin 1) (y 3 : Fin 512) := by
    blk_ext [index_in t]
  refine (congrArg _ hi).trans ((stretched_apply _ _ _ _).trans ?_)
  have y0 : (y 0 : Nat) < 1 := (y 0).isLt
  have y2 : (y 2 : Nat) < 16 := (y 2).isLt
  have h0 : (⟨(grid1.coords t 0).val, (grid1.coords t 0).isLt⟩ : Fin 2) = (win1_1.blk t).view.emb y 0 := by
    apply Fin.ext
    blk_simp [index_out t]
  have h2 : (((win1_1.blk t).view.emb y 2 : Fin 512) : Nat) = (grid1.coords t 1).val * 16 + (y 2 : Nat) := by
    blk_simp [index_out t]
  have h3 : (((win1_1.blk t).view.emb y 3 : Fin 512) : Nat) = (y 3 : Nat) := by
    blk_simp [index_out t]
  refine congr (congrArg (fun b => mark (scoresOf m c b)) h0) (Fin.ext ?_)
  show (grid1.coords t 1).val * 32 + (y 3 : Nat) / 16
    = (((win1_1.blk t).view.emb y 2 : Fin 512) : Nat) / 16 * 32 + (((win1_1.blk t).view.emb y 3 : Fin 512) : Nat) / 16
  rw [h2, h3]
  omega

end Cert.KernelSide

end
-- ==== Proof.ConvWindows.lean ====
/-
  The convolution by stacked windows, read at a pixel: the double sum over the 7 by 7 neighbours of the padded image,
  each times its weight, plus the bias.
-/
module

public import proofs.«01_k».proof.Proof.Scores
public import Idealize.ShloMosaic.Lib.Pointwise
public import Idealize.ShloMosaic.Lib.ValueIdx
public import Idealize.ShloMosaic.Lib.TwoAxisContraction

@[expose] public section

set_option maxRecDepth 16384

noncomputable section

namespace Cert.Scores

open Idealize.ShloMosaic hiding ix1 ix2 ix3 ix4 ix5 ix6
open Idealize.ShloMosaic.ValueIdx
open Cert.KernelIdeal Cert.KernelIdeal.Gen

section Reads

variable {F : FTy → Type} [FloatOps F]

theorem rowSlices (a : Fin 7) : S2048x22x22.Slices ![0, a.val, 0] S2048x16x22 := by revert a; decide

theorem columnSlices (d : Fin 7) : S2048x7x16x22.Slices ![0, 0, 0, d.val] S2048x7x16x16 := by revert d; decide

/-- Row `i` of the band that starts at row `a` is row `i + a` of the image. -/
theorem rowBand_apply (xp : FVec F S2048x22x22 .f32) (a : Fin 7) (n : Fin 2048) (i : Fin 16) (v : Fin 22) :
    rowBand xp ![0, a.val, 0] (rowSlices a) (ix4 n (0 : Fin 1) i v) = xp (ix3 n ⟨i.val + a.val, by omega⟩ v) := by
  refine (broadcastInDim_apply _ _ _ _ (ix3 n i v) fun b => ?_).trans (extractStridedSlice_apply _ _ _ _ _ fun b => ?_)
  · match b with
    | ⟨0, _⟩ => rfl
    | ⟨1, _⟩ => rfl
    | ⟨2, _⟩ => rfl
  · match b with
    | ⟨0, _⟩ => exact (Nat.zero_add _).symm
    | ⟨1, _⟩ => exact Nat.add_comm _ _
    | ⟨2, _⟩ => exact (Nat.zero_add _).symm

/-- Entry `(n, a, i, v)` of the stacked row bands is pixel `(i + a, v)` of image `n`. -/
theorem rowBands_apply (xp : FVec F S2048x22x22 .f32) (n : Fin 2048) (a : Fin 7) (i : Fin 16) (v : Fin 22) :
    rowBands xp (ix4 n a i v) = xp (ix3 n ⟨i.val + a.val, by omega⟩ v) := by
  refine Eq.trans ?_ (rowBand_apply xp a n i v)
  refine concatenate_ofFn_unit_apply (t := S2048x7x16x22) (s₁ := S2048x1x16x22) 1
    (fun b : Fin 7 => rowBand xp ![0, b.val, 0] (rowSlices b))
    concatenates_S2048x1x16x22_S2048x1x16x22_S2048x1x16x22_S2048x1x16x22_S2048x1x16x22_S2048x1x16x22_S2048x1x16x22_S2048x7x16x22_d1
    rfl rfl (ix4 n a i v) a rfl (ix4 n (0 : Fin 1) i v) fun b hb => ?_
  match b with
  | ⟨0, _⟩ => rfl
  | ⟨1, _⟩ => exact absurd rfl hb
  | ⟨2, _⟩ => rfl
  | ⟨3, _⟩ => rfl

/-- Column `j` of the window that starts at column `d` is column `j + d` of the band. -/
theorem window_apply (r : FVec F S2048x7x16x22 .f32) (d : Fin 7) (n : Fin 2048) (a : Fin 7) (i j : Fin 16) :
    window r ![0, 0, 0, d.val] (columnSlices d) (ix5 n a (0 : Fin 1) i j) = r (ix4 n a i ⟨j.val + d.val, by omega⟩) := by
  refine (broadcastInDim_apply _ _ _ _ (ix4 n a i j) fun b => ?_).trans (extractStridedSlice_apply _ _ _ _ _ fun b => ?_)
  · match b with
    | ⟨0, _⟩ => rfl
    | ⟨1, _⟩ => rfl
    | ⟨2, _⟩ => rfl
    | ⟨3, _⟩ => rfl
  · match b with
    | ⟨0, _⟩ => exact (Nat.zero_add _).symm
    | ⟨1, _⟩ => exact (Nat.zero_add _).symm
    | ⟨2, _⟩ => exact (Nat.zero_add _).symm
    | ⟨3, _⟩ => exact Nat.add_comm _ _

/-- Entry `(n, a, d, i, j)` of the stacked windows is entry `(n, a, i, j + d)` of the row bands. -/
theorem windows_apply (r : FVec F S2048x7x16x22 .f32) (n : Fin 2048) (a d : Fin 7) (i j : Fin 16) :
    windows r (ix5 n a d i j) = r (ix4 n a i ⟨j.val + d.val, by omega⟩) := by
  refine Eq.trans ?_ (window_apply r d n a i j)
  refine concatenate_ofFn_unit_apply (t := S2048x7x7x16x16) (s₁ := S2048x7x1x16x16) 2
    (fun b : Fin 7 => window r ![0, 0, 0, b.val] (columnSlices b))
    concatenates_S2048x7x1x16x16_S2048x7x1x16x16_S2048x7x1x16x16_S2048x7x1x16x16_S2048x7x1x16x16_S2048x7x1x16x16_S2048x7x1x16x16_S2048x7x7x16x16_d2
    rfl rfl (ix5 n a d i j) d rfl (ix5 n a (0 : Fin 1) i j) fun b hb => ?_
  match b with
  | ⟨0, _⟩ => rfl
  | ⟨1, _⟩ => rfl
  | ⟨2, _⟩ => exact absurd rfl hb
  | ⟨3, _⟩ => rfl
  | ⟨4, _⟩ => rfl

end Reads

/-- The weighted sum over a pixel's neighbours. -/
def neighbourSum (xp : FVec Ideal S2048x22x22 .f32) (w : FVec Ideal S1x1x7x7 .f32) (n : Fin 2048) (i j : Fin 16) : EReal :=
  ∑ a : Fin 7, ∑ d : Fin 7,
    xp (ix3 n ⟨i.val + a.val, by omega⟩ ⟨j.val + d.val, by omega⟩) * w (ix4 (0 : Fin 1) (0 : Fin 1) a d)

/-- The windows contracted with the weights, at a pixel. -/
theorem contract_apply (xp : FVec Ideal S2048x22x22 .f32) (w : FVec Ideal S1x1x7x7 .f32) (n : Fin 2048) (i j : Fin 16) :
    Host.dotGeneral dot_S2048x7x7x16x16_S7x7_S2048x16x16_12_01_034_n_n_n none (windows (rowBands xp))
      (shapeCast S7x7 w shapeCasts_S1x1x7x7_S7x7) (ix3 n i j) = neighbourSum xp w n i j := by
  let D := dot_S2048x7x7x16x16_S7x7_S2048x16x16_12_01_034_n_n_n
  have hc : D.lhsContracting = [1, 2] := rfl
  show FloatOps.dotGeneral D none .single _ _ _ = _
  rw [Ideal.dotGeneral_apply, D.sum_contr₂ hc (K₁ := 7) (K₂ := 7) rfl rfl]
  refine Finset.sum_congr rfl fun a _ => Finset.sum_congr rfl fun d _ => ?_
  have hl : D.lhsIdx (ix3 n i j) (D.contrIdx₂ hc (K₁ := 7) (K₂ := 7) rfl rfl a d) = ix5 n a d i j := by
    funext b; apply Fin.ext
    match b with
    | ⟨0, _⟩ => rfl
    | ⟨1, _⟩ => rfl
    | ⟨2, _⟩ => rfl
    | ⟨3, _⟩ => rfl
    | ⟨4, _⟩ => rfl
  have hr : D.rhsIdx (ix3 n i j) (D.contrIdx₂ hc (K₁ := 7) (K₂ := 7) rfl rfl a d) = ix2 a d := by
    funext b; apply Fin.ext
    match b with
    | ⟨0, _⟩ => rfl
    | ⟨1, _⟩ => rfl
  rw [hl, hr, windows_apply, rowBands_apply]
  congr 1
  refine shapeCast_apply w _ _ (ix4 (0 : Fin 1) (0 : Fin 1) a d) ?_
  rw [Shape.rowMajor_val_four, Shape.rowMajor_val_two]
  show ((0 * 1 + 0) * 7 + a.val) * 7 + d.val = a.val * 7 + d.val
  omega

end Cert.Scores

end
-- ==== Proof.ConvNeighbours.lean ====
/-
  The reference's convolution read at a pixel: its gather takes the 7 by 7 neighbours of a pixel from the padded image,
  and the two sums add them with their weights.  It is the windows' convolution.
-/
module

public import proofs.«01_k».proof.Proof.ConvWindows
public import proofs.«01_k».proof.Proof.Gen.ReferenceIdeal.Read

@[expose] public section

set_option maxRecDepth 16384

noncomputable section

namespace Cert.ReferenceSide

open Idealize.ShloMosaic hiding ix1 ix2 ix3 ix4 ix5 ix6
open Idealize.ShloMosaic.ValueIdx
open Cert.ReferenceIdeal Cert.ReferenceIdeal.Gen Cert.ReferenceIdeal.Read Cert.Scores

/-- The row that neighbour `a` of row `i` has in the padded image. -/
theorem rowIndex (i : Fin 16) (a : Fin 7) :
    val_main_v28 (F := Ideal) (ix4 i (0 : Fin 1) a (0 : Fin 1)) = BitVec.ofNat 32 (i.val + a.val) := by
  revert i a; decide +kernel

/-- The column that neighbour `d` of column `j` has in the padded image. -/
theorem columnIndex (j : Fin 16) (d : Fin 7) :
    val_main_v33 (F := Ideal) (ix4 (0 : Fin 1) j (0 : Fin 1) d) = BitVec.ofNat 32 (j.val + d.val) := by
  revert j d; decide +kernel

/-- The gather's row coordinates. -/
theorem indices_row (i j : Fin 16) (a d : Fin 7) :
    val_main_v38 (F := Ideal) (ix5 i j a d (0 : Fin 2)) = BitVec.ofNat 32 (i.val + a.val) := by
  refine Eq.trans ?_ (rowIndex i a)
  refine (concatenate_pair_apply_left (t := S16x16x7x7x2) 4 (val_main_v36 (F := Ideal)) (val_main_v37 (F := Ideal)) _
    (ix5 i j a d (0 : Fin 2)) rfl (ix5 i j a d (0 : Fin 1)) fun b => ?_).trans ?_
  · match b with
    | ⟨0, _⟩ => rfl
    | ⟨1, _⟩ => rfl
    | ⟨2, _⟩ => rfl
    | ⟨3, _⟩ => rfl
    | ⟨4, _⟩ => rfl
  · refine (val_main_v36_apply _).trans ((val_main_v34_apply _).trans (congrArg _ (funext fun b => Fin.ext ?_)))
    match b with
    | ⟨0, _⟩ => rfl
    | ⟨1, _⟩ => rfl
    | ⟨2, _⟩ => rfl
    | ⟨3, _⟩ => rfl

/-- The gather's column coordinates. -/
theorem indices_column (i j : Fin 16) (a d : Fin 7) :
    val_main_v38 (F := Ideal) (ix5 i j a d (1 : Fin 2)) = BitVec.ofNat 32 (j.val + d.val) := by
  refine Eq.trans ?_ (columnIndex j d)
  refine (concatenate_pair_apply_right (t := S16x16x7x7x2) 4 (val_main_v36 (F := Ideal)) (val_main_v37 (F := Ideal)) _
    (ix5 i j a d (1 : Fin 2)) rfl rfl (ix5 i j a d (0 : Fin 1)) (fun b hb => ?_) rfl).trans ?_
  · match b with
    | ⟨0, _⟩ => rfl
    | ⟨1, _⟩ => rfl
    | ⟨2, _⟩ => rfl
    | ⟨3, _⟩ => rfl
    | ⟨4, _⟩ => exact absurd rfl hb
  · refine (val_main_v37_apply _).trans ((val_main_v35_apply _).trans (congrArg _ (funext fun b => Fin.ext ?_)))
    match b with
    | ⟨0, _⟩ => rfl
    | ⟨1, _⟩ => rfl
    | ⟨2, _⟩ => rfl
    | ⟨3, _⟩ => rfl

theorem toNat_small (m : Nat) (h : m < 22) : (BitVec.ofNat 32 m).toInt.toNat = m := by
  revert h; revert m; decide

/-- The gather at a pixel and a neighbour: the neighbour's entry of the padded image. -/
theorem gather_apply (xp : FVec Ideal S2048x22x22 .f32) (n : Fin 2048) (i j : Fin 16) (a d : Fin 7) :
    Host.gather gather_S2048x22x22_S16x16x7x7x2_S2048x16x16x7x7_0_12_n_n_12_4_204811 xp (val_main_v38 (F := Ideal))
      (ix5 n i j a d) = xp (ix3 n ⟨i.val + a.val, by omega⟩ ⟨j.val + d.val, by omega⟩) := by
  let D := gather_S2048x22x22_S16x16x7x7x2_S2048x16x16x7x7_0_12_n_n_12_4_204811
  refine congrArg xp (funext fun b => Fin.ext ?_)
  have hrow : D.siIdx (ix5 n i j a d) (⟨0, by decide⟩ : Fin 2) = ix5 i j a d (0 : Fin 2) := by
    funext e; apply Fin.ext
    match e with
    | ⟨0, _⟩ => rfl
    | ⟨1, _⟩ => rfl
    | ⟨2, _⟩ => rfl
    | ⟨3, _⟩ => rfl
    | ⟨4, _⟩ => rfl
  have hcol : D.siIdx (ix5 n i j a d) (⟨1, by decide⟩ : Fin 2) = ix5 i j a d (1 : Fin 2) := by
    funext e; apply Fin.ext
    match e with
    | ⟨0, _⟩ => rfl
    | ⟨1, _⟩ => rfl
    | ⟨2, _⟩ => rfl
    | ⟨3, _⟩ => rfl
    | ⟨4, _⟩ => rfl
  match b with
  | ⟨0, _⟩ =>
    show 0 + 0 + n.val = n.val
    omega
  | ⟨1, _⟩ =>
    show min (val_main_v38 (F := Ideal) (D.siIdx (ix5 n i j a d) (⟨0, by decide⟩ : Fin 2))).toInt.toNat 21 + 0 + 0 = i.val + a.val
    rw [hrow, indices_row, toNat_small _ (by omega)]
    omega
  | ⟨2, _⟩ =>
    show min (val_main_v38 (F := Ideal) (D.siIdx (ix5 n i j a d) (⟨1, by decide⟩ : Fin 2))).toInt.toNat 21 + 0 + 0 = j.val + d.val
    rw [hcol, indices_column, toNat_small _ (by omega)]
    omega

/-- The weighted sum over the neighbours, as the reference forms it. -/
def neighbours (xp : FVec Ideal S2048x22x22 .f32) (w : FVec Ideal S1x1x7x7 .f32) : FVec Ideal S2048x16x16 .f32 :=
  Host.reduceAdd (Host.reduceAdd
      (mulf (Host.gather gather_S2048x22x22_S16x16x7x7x2_S2048x16x16x7x7_0_12_n_n_12_4_204811 xp (val_main_v38 (F := Ideal)))
        (val_main_v42 (F := Ideal) w))
      (constant S_ .f32 0x00000000#32) reducesTo_S2048x16x16x7x7_S2048x16x16x7_d4 h_S_)
    (constant S_ .f32 0x00000000#32) reducesTo_S2048x16x16x7_S2048x16x16_d3 h_S_

theorem weight_apply (w : FVec Ideal S1x1x7x7 .f32) (n : Fin 2048) (i j : Fin 16) (a d : Fin 7) :
    val_main_v42 (F := Ideal) w (ix5 n i j a d) = w (ix4 (0 : Fin 1) (0 : Fin 1) a d) := by
  refine (val_main_v42_apply _ _).trans ((val_main_v41_apply _ _).trans ?_)
  refine shapeCast_apply w _ _ (ix4 (0 : Fin 1) (0 : Fin 1) a d) ?_
  rw [Shape.rowMajor_val_four, Shape.rowMajor_val_two]
  show ((0 * 1 + 0) * 7 + a.val) * 7 + d.val = a.val * 7 + d.val
  omega

/-- The reference's weighted sum at a pixel. -/
theorem neighbours_apply (xp : FVec Ideal S2048x22x22 .f32) (w : FVec Ideal S1x1x7x7 .f32) (n : Fin 2048) (i j : Fin 16) :
    neighbours xp w (ix3 n i j) = neighbourSum xp w n i j := by
  unfold neighbours
  simp only [Host.reduceAdd, Ideal.hostReduceAdd_def]
  rw [Ideal.hostReduceAdd_single reducesTo_S2048x16x16x7_S2048x16x16_d3 (by decide)]
  refine (congrArg (· + _) (Ideal.ofBits_zero_f32)).trans ((zero_add _).trans (Finset.sum_congr rfl fun a _ => ?_))
  rw [Ideal.hostReduceAdd_single reducesTo_S2048x16x16x7x7_S2048x16x16x7_d4 (by decide)]
  refine (congrArg (· + _) (Ideal.ofBits_zero_f32)).trans ((zero_add _).trans (Finset.sum_congr rfl fun d _ => ?_))
  refine Eq.trans ?_ (congrArg₂ (· * ·) (gather_apply xp n i j a d) (weight_apply w n i j a d))
  refine congrArg (fun k => mulf (Host.gather _ xp (val_main_v38 (F := Ideal))) (val_main_v42 (F := Ideal) w) k)
    (funext fun b => Fin.ext ?_)
  match b with
  | ⟨0, _⟩ => rfl
  | ⟨1, _⟩ => rfl
  | ⟨2, _⟩ => rfl
  | ⟨3, _⟩ => rfl
  | ⟨4, _⟩ => rfl

/-- The reference's convolution is the windows'. -/
theorem conv_eq (xp : FVec Ideal S2048x22x22 .f32) (w : FVec Ideal S1x1x7x7 .f32) (b : FVec Ideal S1 .f32) :
    addf (broadcastInDim S2048x1x16x16 ![0, 2, 3] bcast_S2048x16x16_S2048x1x16x16_0_2_3 (neighbours xp w))
      (val_main_v48 (F := Ideal) b) = conv xp w b := by
  have h : neighbours xp w = Host.dotGeneral Cert.KernelIdeal.dot_S2048x7x7x16x16_S7x7_S2048x16x16_12_01_034_n_n_n none
      (windows (rowBands xp)) (shapeCast Cert.KernelIdeal.S7x7 w Cert.KernelIdeal.Gen.shapeCasts_S1x1x7x7_S7x7) := by
    funext k
    rw [ValueIdx.eq_ix3 k]
    exact (neighbours_apply xp w (k 0) (k 1) (k 2)).trans (contract_apply xp w (k 0) (k 1) (k 2)).symm
  rw [h]
  rfl

end Cert.ReferenceSide

end
-- ==== Proof.PatchMeans.lean ====
/-
  The energy map and the channel means of the kernel's program at a patch, as sums over the image: the mean square over
  the channels at a pixel, and the mean square over a patch's rows, then over its columns.
-/
module

public import proofs.«01_k».proof.Proof.KernelScores
public import Idealize.ShloMosaic.Lib.ValueIdx
public import Idealize.ShloMosaic.Lib.ValueIdxRank6
public import Idealize.ShloMosaic.PureOps.Ideal.Laws
public import Idealize.ShloMosaic.Lib.Pipeline.Value

@[expose] public section

set_option maxRecDepth 16384

noncomputable section

namespace Cert.KernelSide

open Idealize.ShloMosaic
open Idealize.ShloMosaic.ValueIdx
open Cert.KernelIdeal Cert.KernelIdeal.Gen Cert.Scores

/-- The image a patch is cut from. -/
abbrev imageOf (n : Fin 2048) : Fin 2 := ⟨n.val / 1024, by omega⟩
/-- The row of the image at row `i` of a patch. -/
abbrev rowOf (n : Fin 2048) (i : Fin 16) : Fin 512 := ⟨n.val % 1024 / 32 * 16 + i.val, by omega⟩
/-- The column of the image at column `j` of a patch. -/
abbrev columnOf (n : Fin 2048) (j : Fin 16) : Fin 512 := ⟨n.val % 32 * 16 + j.val, by omega⟩

variable (x : FVec Ideal S2x96x512x512 .f32)

/-- The square of a patch's pixel in one channel. -/
def square (n : Fin 2048) (k : Fin 96) (i j : Fin 16) : EReal :=
  FloatOps.mulf (F := Ideal) (φ := .f32) (x (ix4 (imageOf n) k (rowOf n i) (columnOf n j)))
    (x (ix4 (imageOf n) k (rowOf n i) (columnOf n j)))

/-- The mean square over the channels at a patch's pixel. -/
def energyAt (n : Fin 2048) (i j : Fin 16) : EReal :=
  FloatOps.hostDivf (F := Ideal) (φ := .f32)
    (FloatOps.ofBits (F := Ideal) .f32 0x00000000#32 + ∑ k : Fin 96, square x n k i j)
    (FloatOps.ofBits (F := Ideal) .f32 0x42C00000#32)

/-- The mean square over a patch's rows, at one channel and column. -/
def columnMean (n : Fin 2048) (k : Fin 96) (j : Fin 16) : EReal :=
  FloatOps.hostDivf (F := Ideal) (φ := .f32)
    (FloatOps.ofBits (F := Ideal) .f32 0x00000000#32 + ∑ i : Fin 16, square x n k i j)
    (FloatOps.ofBits (F := Ideal) .f32 0x41800000#32)

/-- The mean square over a patch, at one channel. -/
def channelMeanAt (n : Fin 2048) (k : Fin 96) : EReal :=
  FloatOps.hostDivf (F := Ideal) (φ := .f32)
    (FloatOps.ofBits (F := Ideal) .f32 0x00000000#32 + ∑ j : Fin 16, columnMean x n k j)
    (FloatOps.ofBits (F := Ideal) .f32 0x41800000#32)

theorem channelSum_apply (b : Fin 2) (r c : Fin 512) :
    Host.reduceAdd (mulf x x) (constant S_ .f32 0x00000000#32) reducesTo_S2x96x512x512_S2x512x512_d1 h_S_ (ix3 b r c)
      = FloatOps.ofBits (F := Ideal) .f32 0x00000000#32
        + ∑ k : Fin 96, FloatOps.mulf (F := Ideal) (φ := .f32) (x (ix4 b k r c)) (x (ix4 b k r c)) := by
  simp only [Host.reduceAdd, Ideal.hostReduceAdd_def]
  rw [Ideal.hostReduceAdd_single reducesTo_S2x96x512x512_S2x512x512_d1 (by decide)]
  refine congrArg (_ + ·) (Finset.sum_congr rfl fun k _ => ?_)
  refine congrArg (mulf x x) (funext fun a => Fin.ext ?_)
  match a with
  | ⟨0, _⟩ => rfl
  | ⟨1, _⟩ => rfl
  | ⟨2, _⟩ => rfl
  | ⟨3, _⟩ => rfl

/-- The kernel's energy map at a patch's pixel. -/
theorem energy_apply (n : Fin 2048) (i j : Fin 16) : energy x (ix4 n (0 : Fin 1) i j) = energyAt x n i j := by
  unfold energy
  refine (shapeCast_apply _ _ _ (ix5 (imageOf n) (⟨n.val % 1024 / 32, by omega⟩ : Fin 32) (⟨n.val % 32, by omega⟩ : Fin 32) i j) ?_).trans ?_
  · rw [Shape.rowMajor_val_five, Shape.rowMajor_val_four]
    show (((n.val / 1024 * 32 + n.val % 1024 / 32) * 32 + n.val % 32) * 16 + i.val) * 16 + j.val
      = ((n.val * 1 + 0) * 16 + i.val) * 16 + j.val
    omega
  refine (transpose_apply _ _ _ _ (ix5 (imageOf n) (⟨n.val % 1024 / 32, by omega⟩ : Fin 32) i (⟨n.val % 32, by omega⟩ : Fin 32) j)
    fun b => ?_).trans ?_
  · match b with
    | ⟨0, _⟩ => rfl
    | ⟨1, _⟩ => rfl
    | ⟨2, _⟩ => rfl
    | ⟨3, _⟩ => rfl
    | ⟨4, _⟩ => rfl
  refine (shapeCast_apply _ _ _ (ix3 (imageOf n) (rowOf n i) (columnOf n j)) ?_).trans ?_
  · rw [Shape.rowMajor_val_three, Shape.rowMajor_val_five]
    show (n.val / 1024 * 512 + (n.val % 1024 / 32 * 16 + i.val)) * 512 + (n.val % 32 * 16 + j.val)
      = (((n.val / 1024 * 32 + n.val % 1024 / 32) * 16 + i.val) * 32 + n.val % 32) * 16 + j.val
    omega
  exact congrArg (fun s => FloatOps.hostDivf (F := Ideal) (φ := .f32) s (FloatOps.ofBits (F := Ideal) .f32 0x42C00000#32))
    (channelSum_apply x _ _ _)

/-- The squares summed over a patch's rows. -/
theorem rowSum_apply (b : Fin 2) (k : Fin 96) (p q : Fin 32) (j : Fin 16) (n : Fin 2048)
    (hn : n.val = b.val * 1024 + p.val * 32 + q.val) :
    Host.reduceAdd (shapeCast S2x96x32x16x32x16 (mulf x x) shapeCasts_S2x96x512x512_S2x96x32x16x32x16)
        (constant S_ .f32 0x00000000#32) reducesTo_S2x96x32x16x32x16_S2x96x32x32x16_d3 h_S_ (ix5 b k p q j)
      = FloatOps.ofBits (F := Ideal) .f32 0x00000000#32 + ∑ i : Fin 16, square x n k i j := by
  simp only [Host.reduceAdd, Ideal.hostReduceAdd_def]
  rw [Ideal.hostReduceAdd_single reducesTo_S2x96x32x16x32x16_S2x96x32x32x16_d3 (by decide)]
  refine congrArg (_ + ·) (Finset.sum_congr rfl fun i _ => ?_)
  refine shapeCast_apply (mulf x x) _ _ (ix4 (imageOf n) k (rowOf n i) (columnOf n j)) ?_
  rw [Shape.rowMajor_val_four, Shape.rowMajor_val_six]
  show ((n.val / 1024 * 96 + k.val) * 512 + (n.val % 1024 / 32 * 16 + i.val)) * 512 + (n.val % 32 * 16 + j.val)
    = ((((b.val * 96 + k.val) * 32 + p.val) * 16 + i.val) * 32 + q.val) * 16 + j.val
  have := i.isLt
  have h1 : n.val / 1024 = b.val := by omega
  have h2 : n.val % 1024 / 32 = p.val := by omega
  have h3 : n.val % 32 = q.val := by omega
  rw [h1, h2, h3]
  ring

/-- The kernel's channel means at a patch. -/
theorem channelMeans_apply (n : Fin 2048) (k : Fin 96) : channelMeans x (ix2 n k) = channelMeanAt x n k := by
  unfold channelMeans
  refine (shapeCast_apply _ _ _ (ix4 (imageOf n) (⟨n.val % 1024 / 32, by omega⟩ : Fin 32) (⟨n.val % 32, by omega⟩ : Fin 32) k) ?_).trans ?_
  · rw [Shape.rowMajor_val_four, Shape.rowMajor_val_two]
    show ((n.val / 1024 * 32 + n.val % 1024 / 32) * 32 + n.val % 32) * 96 + k.val = n.val * 96 + k.val
    omega
  refine (transpose_apply _ _ _ _ (ix4 (imageOf n) k (⟨n.val % 1024 / 32, by omega⟩ : Fin 32) (⟨n.val % 32, by omega⟩ : Fin 32))
    fun b => ?_).trans ?_
  · match b with
    | ⟨0, _⟩ => rfl
    | ⟨1, _⟩ => rfl
    | ⟨2, _⟩ => rfl
    | ⟨3, _⟩ => rfl
  refine congrArg (fun s => FloatOps.hostDivf (F := Ideal) (φ := .f32) s (FloatOps.ofBits (F := Ideal) .f32 0x41800000#32)) ?_
  simp only [Host.reduceAdd, Ideal.hostReduceAdd_def]
  rw [Ideal.hostReduceAdd_single reducesTo_S2x96x32x32x16_S2x96x32x32_d4 (by decide)]
  refine congrArg (_ + ·) (Finset.sum_congr rfl fun j _ => ?_)
  refine congrArg (fun s => FloatOps.hostDivf (F := Ideal) (φ := .f32) s (FloatOps.ofBits (F := Ideal) .f32 0x41800000#32)) ?_
  refine Eq.trans ?_ (rowSum_apply x (imageOf n) k ⟨n.val % 1024 / 32, by omega⟩ ⟨n.val % 32, by omega⟩ j n ?_)
  · simp only [Host.reduceAdd, Ideal.hostReduceAdd_def]
    refine congrArg _ (funext fun a => Fin.ext ?_)
    match a with
    | ⟨0, _⟩ => rfl
    | ⟨1, _⟩ => rfl
    | ⟨2, _⟩ => rfl
    | ⟨3, _⟩ => rfl
    | ⟨4, _⟩ => rfl
  · show n.val = n.val / 1024 * 1024 + n.val % 1024 / 32 * 32 + n.val % 32
    omega

end Cert.KernelSide

end
-- ==== Proof.ReferenceScores.lean ====
/-
  The reference's scores: its energy map and channel means are the kernel's, its convolutions are the windows', and the
  other stages are the same functions, so its scores are the kernel's.
-/
module

public import proofs.«01_k».proof.Proof.ConvNeighbours
public import proofs.«01_k».proof.Proof.PatchMeans

@[expose] public section

set_option maxRecDepth 16384

noncomputable section

namespace Cert.ReferenceSide

open Idealize.ShloMosaic hiding ix1 ix2 ix3 ix4 ix5 ix6
open Idealize.ShloMosaic.ValueIdx
open Cert.ReferenceIdeal Cert.ReferenceIdeal.Gen Cert.ReferenceIdeal.Read Cert.Scores
open Cert.KernelSide (imageOf rowOf columnOf square energyAt columnMean channelMeanAt energy channelMeans)

section Maps

variable (x : FVec Ideal S2x96x512x512 .f32)

/-- The reference's patches, at a pixel: the image's. -/
theorem patches_apply (n : Fin 2048) (k : Fin 96) (i j : Fin 16) :
    val_main_v4 (F := Ideal) x (ix4 n k i j) = x (ix4 (imageOf n) k (rowOf n i) (columnOf n j)) := by
  have hp : n.val % 1024 / 32 < 32 := by omega
  have hq : n.val % 32 < 32 := by omega
  refine (shapeCast_apply (val_main_v3 (F := Ideal) x) _ _
    (ix3 (imageOf n) (⟨n.val % 1024, by omega⟩ : Fin 1024) (⟨(k.val * 16 + i.val) * 16 + j.val, by omega⟩ : Fin 24576)) ?_).trans ?_
  · rw [Shape.rowMajor_val_three, Shape.rowMajor_val_four]
    show (n.val / 1024 * 1024 + n.val % 1024) * 24576 + ((k.val * 16 + i.val) * 16 + j.val)
      = ((n.val * 96 + k.val) * 16 + i.val) * 16 + j.val
    omega
  refine (transpose_apply _ (val_main_v2 (F := Ideal) x) _ _
    (ix3 (imageOf n) (⟨(k.val * 16 + i.val) * 16 + j.val, by omega⟩ : Fin 24576) (⟨n.val % 1024, by omega⟩ : Fin 1024)) fun b => ?_).trans ?_
  · match b with
    | ⟨0, _⟩ => rfl
    | ⟨1, _⟩ => rfl
    | ⟨2, _⟩ => rfl
  refine (shapeCast_apply (val_main_v1 (F := Ideal) x) _ _
    (ix6 (imageOf n) k i j (⟨n.val % 1024 / 32, hp⟩ : Fin 32) (⟨n.val % 32, hq⟩ : Fin 32)) ?_).trans ?_
  · rw [Shape.rowMajor_val_six, Shape.rowMajor_val_three]
    show ((((n.val / 1024 * 96 + k.val) * 16 + i.val) * 16 + j.val) * 32 + n.val % 1024 / 32) * 32 + n.val % 32
      = (n.val / 1024 * 24576 + ((k.val * 16 + i.val) * 16 + j.val)) * 1024 + n.val % 1024
    omega
  refine (transpose_apply _ (val_main_v0 (F := Ideal) x) _ _
    (ix6 (imageOf n) k (⟨n.val % 1024 / 32, hp⟩ : Fin 32) i (⟨n.val % 32, hq⟩ : Fin 32) j) fun b => ?_).trans ?_
  · match b with
    | ⟨0, _⟩ => rfl
    | ⟨1, _⟩ => rfl
    | ⟨2, _⟩ => rfl
    | ⟨3, _⟩ => rfl
    | ⟨4, _⟩ => rfl
    | ⟨5, _⟩ => rfl
  refine shapeCast_apply x _ _ _ ?_
  rw [Shape.rowMajor_val_four, Shape.rowMajor_val_six]
  show ((n.val / 1024 * 96 + k.val) * 512 + (n.val % 1024 / 32 * 16 + i.val)) * 512 + (n.val % 32 * 16 + j.val)
    = ((((n.val / 1024 * 96 + k.val) * 32 + n.val % 1024 / 32) * 16 + i.val) * 32 + n.val % 32) * 16 + j.val
  ring

/-- The reference's squares. -/
theorem square_apply (n : Fin 2048) (k : Fin 96) (i j : Fin 16) :
    val_main_v5 (F := Ideal) x (ix4 n k i j) = square x n k i j := by
  rw [val_main_v5_apply, patches_apply]
  rfl

/-- The reference's energy map is the kernel's. -/
theorem energy_eq : val_main_v9 (F := Ideal) x = energy x := by
  suffices h : ∀ (n : Fin 2048) (i j : Fin 16),
      val_main_v9 (F := Ideal) x (ix4 n (0 : Fin 1) i j) = energy x (ix4 n (0 : Fin 1) i j) from funext fun p => by
    have hp : p = ix4 (p 0) (0 : Fin 1) (p 2) (p 3) := by
      refine (ValueIdx.eq_ix4 p).trans ?_
      exact congrArg (fun z : Fin 1 => ix4 (p 0) z (p 2) (p 3)) (Subsingleton.elim _ _)
    exact (congrArg _ hp).trans ((h _ _ _).trans (congrArg _ hp.symm))
  intro n i j
  rw [Cert.KernelSide.energy_apply]
  rw [val_main_v9_apply, val_main_v7_apply, val_main_v6_apply]
  refine congrArg (fun s => FloatOps.hostDivf (F := Ideal) (φ := .f32) s _) (congrArg (_ + ·) (Finset.sum_congr rfl fun k _ => ?_))
  refine Eq.trans (congrArg _ (funext fun b => Fin.ext ?_)) (square_apply x n k i j)
  match b with
  | ⟨0, _⟩ => rfl
  | ⟨1, _⟩ => rfl
  | ⟨2, _⟩ => rfl
  | ⟨3, _⟩ => rfl

/-- The reference's channel means are the kernel's. -/
theorem channelMeans_eq : val_main_v129 (F := Ideal) x = channelMeans x := by
  suffices h : ∀ (n : Fin 2048) (k : Fin 96),
      val_main_v129 (F := Ideal) x (ix2 n k) = channelMeans x (ix2 n k) from funext fun p =>
    (congrArg _ (ValueIdx.eq_ix2 p)).trans ((h _ _).trans (congrArg _ (ValueIdx.eq_ix2 p).symm))
  intro n k
  rw [Cert.KernelSide.channelMeans_apply]
  rw [val_main_v129_apply, val_main_v127_apply]
  refine congrArg (fun s => FloatOps.hostDivf (F := Ideal) (φ := .f32) s _) (congrArg (_ + ·) (Finset.sum_congr rfl fun j _ => ?_))
  rw [val_main_v126_apply, val_main_v124_apply]
  refine congrArg (fun s => FloatOps.hostDivf (F := Ideal) (φ := .f32) s _) (congrArg (_ + ·) (Finset.sum_congr rfl fun i _ => ?_))
  refine Eq.trans (congrArg _ (funext fun b => Fin.ext ?_)) (square_apply x n k i j)
  match b with
  | ⟨0, _⟩ => rfl
  | ⟨1, _⟩ => rfl
  | ⟨2, _⟩ => rfl
  | ⟨3, _⟩ => rfl

end Maps

variable (x0 : FVec Ideal S2x96x512x512 .f32) (x1 : FVec Ideal S1x1x7x7 .f32) (x2 x3 x4 : FVec Ideal S1 .f32)
  (x5 : FVec Ideal S1x1x7x7 .f32) (x6 : FVec Ideal S1 .f32) (x7 : FVec Ideal S6x96 .f32) (x8 : FVec Ideal S6 .f32)
  (x9 : FVec Ideal S96x6 .f32) (x10 : FVec Ideal S96 .f32)

theorem pooled_eq : val_main_v12 (F := Ideal) x0 = pooled (F := Ideal) (energy x0) := by
  rw [← energy_eq]
  rfl

theorem padded_eq : val_main_v14 (F := Ideal) x0 = padded (F := Ideal) (pooled (F := Ideal) (energy x0)) := by
  rw [← pooled_eq]
  rfl

theorem firstConv_eq : val_main_v49 (F := Ideal) x0 x1 x2 = conv (F := Ideal) (padded (F := Ideal) (pooled (F := Ideal) (energy x0))) x1 x2 := by
  rw [← padded_eq]
  exact conv_eq _ _ _

theorem hiddenMap_eq : val_main_v62 (F := Ideal) x0 x1 x2 x3 x4
    = relu (F := Ideal) (batchNorm (F := Ideal) (conv (F := Ideal) (padded (F := Ideal) (pooled (F := Ideal) (energy x0))) x1 x2) x3 x4) := by
  rw [← firstConv_eq]
  rfl

theorem hiddenPadded_eq : val_main_v64 (F := Ideal) x0 x1 x2 x3 x4
    = padded (F := Ideal) (relu (F := Ideal) (batchNorm (F := Ideal) (conv (F := Ideal) (padded (F := Ideal) (pooled (F := Ideal) (energy x0))) x1 x2) x3 x4)) := by
  rw [← hiddenMap_eq]
  rfl

theorem secondConv_eq : val_main_v99 (F := Ideal) x0 x1 x2 x3 x4 x5 x6
    = conv (F := Ideal) (padded (F := Ideal) (relu (F := Ideal) (batchNorm (F := Ideal) (conv (F := Ideal) (padded (F := Ideal) (pooled (F := Ideal) (energy x0))) x1 x2) x3 x4))) x5 x6 := by
  rw [← hiddenPadded_eq]
  exact conv_eq _ _ _

theorem heated_eq : val_main_v109 (F := Ideal) x0 x1 x2 x3 x4 x5 x6
    = heated (F := Ideal) (val_main_v12 (F := Ideal) x0) (sigmoid (F := Ideal) (val_main_v99 (F := Ideal) x0 x1 x2 x3 x4 x5 x6)) := rfl

theorem expRows_eq : val_main_v116 (F := Ideal) x0 x1 x2 x3 x4 x5 x6
    = expRows (F := Ideal) (val_main_v109 (F := Ideal) x0 x1 x2 x3 x4 x5 x6) := rfl

theorem softRows_eq : val_main_v123 (F := Ideal) x0 x1 x2 x3 x4 x5 x6
    = softRows (F := Ideal) (val_main_v116 (F := Ideal) x0 x1 x2 x3 x4 x5 x6) := rfl

/-- The reference's spatial attention is the kernel's. -/
theorem spatial_eq : val_main_v123 (F := Ideal) x0 x1 x2 x3 x4 x5 x6 = spatial (F := Ideal) (pooled (F := Ideal) (energy x0)) x1 x2 x3 x4 x5 x6 := by
  rw [softRows_eq, expRows_eq, heated_eq, secondConv_eq, pooled_eq]
  rfl

theorem hidden_eq : val_main_v134 (F := Ideal) x0 x7 x8 = hidden (F := Ideal) (val_main_v129 (F := Ideal) x0) x7 x8 := rfl

theorem hiddenRelu_eq : val_main_v135 (F := Ideal) x0 x7 x8 = hiddenRelu (F := Ideal) (val_main_v134 (F := Ideal) x0 x7 x8) := rfl

theorem gates_eq : val_main_v146 (F := Ideal) x0 x7 x8 x9 x10 = gates (F := Ideal) (val_main_v135 (F := Ideal) x0 x7 x8) x9 x10 := rfl

theorem heatedChannels_eq : val_main_v149 (F := Ideal) x0 x7 x8 x9 x10
    = heatedChannels (F := Ideal) (val_main_v129 (F := Ideal) x0) (val_main_v146 (F := Ideal) x0 x7 x8 x9 x10) := rfl

theorem expChannels_eq : val_main_v156 (F := Ideal) x0 x7 x8 x9 x10
    = expChannels (F := Ideal) (val_main_v149 (F := Ideal) x0 x7 x8 x9 x10) := rfl

theorem softChannels_eq : val_main_v162 (F := Ideal) x0 x7 x8 x9 x10
    = softChannels (F := Ideal) (val_main_v156 (F := Ideal) x0 x7 x8 x9 x10) := rfl

/-- The reference's channel attention is the kernel's. -/
theorem channel_eq : val_main_v162 (F := Ideal) x0 x7 x8 x9 x10 = channel (F := Ideal) (channelMeans x0) x7 x8 x9 x10 := by
  rw [softChannels_eq, expChannels_eq, heatedChannels_eq, gates_eq, hiddenRelu_eq, hidden_eq, channelMeans_eq]
  rfl

theorem mix_eq : val_main_v176 (F := Ideal) x0 x1 x2 x3 x4 x5 x6 x7 x8 x9 x10
    = mix (F := Ideal) (val_main_v123 (F := Ideal) x0 x1 x2 x3 x4 x5 x6) (val_main_v162 (F := Ideal) x0 x7 x8 x9 x10) := rfl

/-- The reference's scores are the kernel's. -/
theorem scores_eq : val_main_v176 (F := Ideal) x0 x1 x2 x3 x4 x5 x6 x7 x8 x9 x10
    = scores (F := Ideal) (pooled (F := Ideal) (energy x0)) (channelMeans x0) x1 x2 x3 x4 x5 x6 x7 x8 x9 x10 := by
  rw [mix_eq, spatial_eq, channel_eq]
  rfl

end Cert.ReferenceSide

end
-- ==== Proof.ReferenceSelect.lean ====
/-
  The reference's selection, read: the top 512 of the negated scores are the 512 places that fewest places precede, and
  writing 0 over those places of an array of ones leaves the marks.
-/
module

public import proofs.«01_k».proof.Proof.ReferenceScores
public import proofs.«01_k».proof.Proof.KernelSelect
public import Idealize.ShloMosaic.Lib.Routing.OpsSet
public import Idealize.ShloMosaic.Lib.Routing.OpsPair

@[expose] public section

set_option maxRecDepth 16384

noncomputable section

namespace Cert.ReferenceSide

open Idealize.ShloMosaic hiding ix1 ix2 ix3 ix4 ix5 ix6
open Idealize.ShloMosaic.ValueIdx
open Cert.ReferenceIdeal Cert.ReferenceIdeal.Gen Cert.ReferenceIdeal.Read Cert.Select
open Cert.KernelSide (mark toInt_small)

/-- The order in which the reference's selection takes the places of one image. -/
def order (s : FVec Ideal S2x1024 .f32) (b : Fin 2) : Fin 1024 → Fin 1024 :=
  sortedFrom fun k k' => FloatOps.cmpfTotal (F := Ideal) (φ := .f32) .gt (FloatOps.hostNegf (s (ix2 b k)))
    (FloatOps.hostNegf (s (ix2 b k'))) == 1#1

theorem order_place (s : FVec Ideal S2x1024 .f32) (b : Fin 2) (l : Fin 1024) :
    (∃ k : Fin 1024, k.val < 512 ∧ order s b k = l) ↔ rank (fun i => (s (ix2 b i) : EReal)) l < 512 := by
  refine exists_place_iff (fun i => (s (ix2 b i) : EReal)) _ (fun j i => ?_) 512 l
  show (BitVec.ofBool (decide ((-(s (ix2 b i)) : EReal) < -(s (ix2 b j)))) == 1#1) = true ↔ _
  rw [show decide ((-(s (ix2 b i)) : EReal) < -(s (ix2 b j))) = decide ((s (ix2 b j) : EReal) < s (ix2 b i)) from
    decide_eq_decide.2 EReal.neg_lt_neg_iff]
  by_cases h : (s (ix2 b j) : EReal) < s (ix2 b i) <;> simp [h]

/-- The selected places. -/
def topIndices (s : FVec Ideal S2x1024 .f32) : IVec S2x512 32 :=
  (Host.topK S2x512 1 (FloatOps.cmpfTotal .gt) (Host.negf s) sliceFits_S2x1024_S2x512).2

/-- The second result of a sort of two along the rows: in each row, the second operand's elements in the order
    of the row's places. -/
theorem sort_second {α β : Type} (cmp : α × β → α × β → BitVec 1) (x : S2x1024.Idx → α) (y : S2x1024.Idx → β)
    (b : Fin 2) (k : Fin 1024) :
    (Host.sort2 S2x1024 1 cmp x y).2 (ix2 b k)
      = y (ix2 b (sortedFrom (fun q q' => cmp (x (ix2 b q), y (ix2 b q)) (x (ix2 b q'), y (ix2 b q')) == 1#1) k)) := by
  have ha : ∀ q : Fin 1024, Shape.Idx.along (s := S2x1024) (ix2 b k) 1 q = ix2 b q := fun q => funext fun a => Fin.ext (by
    match a with
    | ⟨0, _⟩ => rfl
    | ⟨1, _⟩ => rfl)
  refine congrArg y ((ha _).trans (congrArg (fun f => ix2 b (sortedFrom f k)) (funext fun q => funext fun q' => ?_)))
  exact congrArg (fun t => t == 1#1) (congrArg₂ cmp (congrArg₂ Prod.mk (congrArg x (ha q)) (congrArg y (ha q)))
    (congrArg₂ Prod.mk (congrArg x (ha q')) (congrArg y (ha q'))))

theorem topIndices_apply (s : FVec Ideal S2x1024 .f32) (b : Fin 2) (k : Fin 512) :
    topIndices s (ix2 b k) = BitVec.ofNat 32 (order s b ⟨k.val, by omega⟩).val := by
  unfold topIndices Host.topK
  dsimp only
  refine (extractStridedSlice_apply _ _ _ _ (ix2 b (⟨k.val, by omega⟩ : Fin 1024)) fun a => ?_).trans ?_
  · match a with
    | ⟨0, _⟩ => exact (Nat.zero_add _).symm
    | ⟨1, _⟩ => exact (Nat.zero_add _).symm
  rw [sort_second]
  unfold order
  generalize hx : sortedFrom _ _ = x
  generalize hy : sortedFrom _ _ = y
  have e : x = y := hx.symm.trans hy
  subst e
  exact dif_pos (by decide)

section Scatter

/-- The places, as the scatter takes them: a negative one wrapped once. -/
def wrapped (s : FVec Ideal S2x1024 .f32) : IVec S2x512 32 :=
  select (cmpi .slt (topIndices s) (val_main_v186 (F := Ideal))) (addi (topIndices s) (val_main_v188 (F := Ideal))) (topIndices s)

theorem wrapped_apply (s : FVec Ideal S2x1024 .f32) (b : Fin 2) (k : Fin 512) :
    wrapped s (ix2 b k) = BitVec.ofNat 32 (order s b ⟨k.val, by omega⟩).val := by
  have h : IntOp.cmpi .slt (topIndices s (ix2 b k)) (val_main_v186 (F := Ideal) (ix2 b k)) = 0#1 := by
    rw [topIndices_apply, show val_main_v186 (F := Ideal) (ix2 b k) = 0#32 from rfl]
    generalize order s b _ = x
    show BitVec.ofBool (BitVec.slt (BitVec.ofNat 32 x.val) 0#32) = _
    rw [BitVec.slt_eq_decide, toInt_small _ x.isLt, show (0#32 : BitVec 32).toInt = 0 from by decide, decide_eq_false (by omega)]
    rfl
  rw [← topIndices_apply s b k]
  unfold wrapped
  revert h
  generalize topIndices s = t
  intro h
  show Scalar.select (IntOp.cmpi .slt (t (ix2 b k)) (val_main_v186 (F := Ideal) (ix2 b k)))
    (addi t (val_main_v188 (F := Ideal)) (ix2 b k)) (t (ix2 b k)) = t (ix2 b k)
  rw [h]
  rfl

/-- The image number and the place, side by side. -/
def targets (s : FVec Ideal S2x1024 .f32) : IVec S2x512x2 32 :=
  concatenate S2x512x2 2 [⟨S2x512x1, val_main_v192 (F := Ideal)⟩,
    ⟨S2x512x1, broadcastInDim S2x512x1 ![0, 1] bcast_S2x512_S2x512x1_0_1 (wrapped s)⟩] concatenates_S2x512x1_S2x512x1_S2x512x2_d2

theorem image_number (b : Fin 2) : val_main_v185 (F := Ideal) (ix2 b (0 : Fin 1)) = BitVec.ofNat 32 b.val := by
  revert b
  decide +kernel

theorem targets_image (s : FVec Ideal S2x1024 .f32) (b : Fin 2) (k : Fin 512) :
    targets s (ix3 b k (0 : Fin 2)) = BitVec.ofNat 32 b.val := by
  refine (concatenate_pair_apply_left (t := S2x512x2) 2 (val_main_v192 (F := Ideal)) _ _ (ix3 b k (0 : Fin 2)) rfl
    (ix3 b k (0 : Fin 1)) fun a => ?_).trans ?_
  · match a with
    | ⟨0, _⟩ => rfl
    | ⟨1, _⟩ => rfl
    | ⟨2, _⟩ => rfl
  · refine ((val_main_v192_apply _).trans ((val_main_v191_apply _).trans (congrArg _ (funext fun a => Fin.ext ?_)))).trans
      (image_number b)
    match a with
    | ⟨0, _⟩ => rfl
    | ⟨1, _⟩ => rfl

theorem targets_place (s : FVec Ideal S2x1024 .f32) (b : Fin 2) (k : Fin 512) :
    targets s (ix3 b k (1 : Fin 2)) = BitVec.ofNat 32 (order s b ⟨k.val, by omega⟩).val := by
  refine Eq.trans ?_ (wrapped_apply s b k)
  unfold targets
  generalize wrapped s = x
  refine (concatenate_pair_apply_right (t := S2x512x2) 2 (val_main_v192 (F := Ideal))
    (broadcastInDim S2x512x1 ![0, 1] bcast_S2x512_S2x512x1_0_1 x) _ (ix3 b k (1 : Fin 2)) rfl rfl
    (ix3 b k (0 : Fin 1)) (fun a ha => ?_) rfl).trans ?_
  · match a with
    | ⟨0, _⟩ => rfl
    | ⟨1, _⟩ => rfl
    | ⟨2, _⟩ => exact absurd rfl ha
  · refine congrArg x (funext fun a => Fin.ext ?_)
    match a with
    | ⟨0, _⟩ => rfl
    | ⟨1, _⟩ => rfl

/-- Where the write of one selected place lands. -/
theorem lands (s : FVec Ideal S2x1024 .f32) (b : Fin 2) (k : Fin 512) (b' : Fin 2) (l : Fin 1024) :
    scatter_S2x1024_S2x512x2_S2x512_n_01_01_2.resultIdx? (ix2 b k) (targets s) = some (ix2 b' l)
      ↔ b = b' ∧ order s b ⟨k.val, by omega⟩ = l := by
  refine (Routing.scatter_lands2 (R := 2) (C := 1024) (A := 2) (B := 512) scatter_S2x1024_S2x512x2_S2x512_n_01_01_2
    rfl rfl rfl (targets s) b k b' l).trans ?_
  rw [targets_image, targets_place, toInt_small _ (by omega), toInt_small _ (Fin.isLt _), Fin.ext_iff, Fin.ext_iff]
  omega

/-- Zeros written over the selected places of an array of ones: the marks. -/
theorem scattered_apply (s : FVec Ideal S2x1024 .f32) (b : Fin 2) (l : Fin 1024) :
    Host.scatter scatter_S2x1024_S2x512x2_S2x512_n_01_01_2 (fun _ z => z) (val_main_v178 (F := Ideal)) (targets s)
      (val_main_v195 (F := Ideal)) (ix2 b l) = mark (fun i => s (ix2 b i)) l := by
  unfold mark
  by_cases h : rank (fun i => (s (ix2 b i) : EReal)) l < 512
  · obtain ⟨k, hk, e⟩ := (order_place s b l).2 h
    rw [if_pos h]
    refine Routing.scatter_set_hit _ _ _ _ _ _ (fun j _ => ?_) (ix2 b (⟨k.val, hk⟩ : Fin 512)) ?_
    · rfl
    · exact (lands s b ⟨k.val, hk⟩ b l).2 ⟨rfl, e⟩
  · rw [if_neg h]
    refine (Routing.scatter_set_miss _ _ _ _ _ fun j hj => h ((order_place s b l).1 ?_)).trans rfl
    obtain ⟨b', k, rfl⟩ : ∃ (b' : Fin 2) (k : Fin 512), j = ix2 b' k := ⟨_, _, ValueIdx.eq_ix2 j⟩
    obtain ⟨rfl, e⟩ := (lands s b' k b l).1 hj
    exact ⟨⟨k.val, by omega⟩, k.isLt, e⟩

end Scatter

end Cert.ReferenceSide

end
-- ==== Proof.ReferenceMask.lean ====
/-
  The reference's last steps: the marks of an image's places spread over the pixels and channels, and the two values
  of the mask read off them.
-/
module

public import proofs.«01_k».proof.Proof.ReferenceSelect
public import proofs.«01_k».proof.Proof.KernelMask
public import Idealize.ShloMosaic.Lib.IdealHost

@[expose] public section

set_option maxRecDepth 16384

noncomputable section

namespace Cert.ReferenceSide

open Idealize.ShloMosaic hiding ix1 ix2 ix3 ix4 ix5 ix6
open Idealize.ShloMosaic.ValueIdx
open Cert.ReferenceIdeal Cert.ReferenceIdeal.Gen Cert.ReferenceIdeal.Read Cert.Select
open Cert.KernelSide (mark place)
open Cert.Scores

/-- One value per place of the grid of patches, laid out as an image in every channel. -/
def spread (g : FVec Ideal S2x1024 .f32) : FVec Ideal S2x96x512x512 .f32 :=
  shapeCast _ (transpose S2x96x32x16x32x16 [0, 1, 4, 2, 5, 3]
    (shapeCast _ (broadcastInDim S2x24576x1024 ![0, 1, 2] bcast_S2x1x1024_S2x24576x1024_0_1_2
      (broadcastInDim S2x1x1024 ![0, 2] bcast_S2x1024_S2x1x1024_0_2 g)) shapeCasts_S2x24576x1024_S2x96x16x16x32x32)
    transposes_S2x96x16x16x32x32_S2x96x32x16x32x16_0_1_4_2_5_3) shapeCasts_S2x96x32x16x32x16_S2x96x512x512

theorem spread_apply (g : FVec Ideal S2x1024 .f32) (n : Fin 2) (k : Fin 96) (h w : Fin 512) :
    spread g (ix4 n k h w) = g (ix2 n (place h w)) := by
  have hh : h.val / 16 < 32 := by omega
  have hw : w.val / 16 < 32 := by omega
  have hh' : h.val % 16 < 16 := by omega
  have hw' : w.val % 16 < 16 := by omega
  unfold spread
  refine (shapeCast_apply _ _ _ (ix6 n k (⟨h.val / 16, hh⟩ : Fin 32) (⟨h.val % 16, hh'⟩ : Fin 16) (⟨w.val / 16, hw⟩ : Fin 32)
    (⟨w.val % 16, hw'⟩ : Fin 16)) ?_).trans ?_
  · rw [Shape.rowMajor_val_six, Shape.rowMajor_val_four]
    show ((((n.val * 96 + k.val) * 32 + h.val / 16) * 16 + h.val % 16) * 32 + w.val / 16) * 16 + w.val % 16
      = ((n.val * 96 + k.val) * 512 + h.val) * 512 + w.val
    omega
  refine (transpose_apply _ _ _ _ (ix6 n k (⟨h.val % 16, hh'⟩ : Fin 16) (⟨w.val % 16, hw'⟩ : Fin 16) (⟨h.val / 16, hh⟩ : Fin 32)
    (⟨w.val / 16, hw⟩ : Fin 32)) fun b => ?_).trans ?_
  · match b with
    | ⟨0, _⟩ => rfl
    | ⟨1, _⟩ => rfl
    | ⟨2, _⟩ => rfl
    | ⟨3, _⟩ => rfl
    | ⟨4, _⟩ => rfl
    | ⟨5, _⟩ => rfl
  refine (shapeCast_apply _ _ _ (ix3 n (⟨(k.val * 16 + h.val % 16) * 16 + w.val % 16, by omega⟩ : Fin 24576) (place h w)) ?_).trans ?_
  · rw [Shape.rowMajor_val_three, Shape.rowMajor_val_six]
    show (n.val * 24576 + ((k.val * 16 + h.val % 16) * 16 + w.val % 16)) * 1024 + (h.val / 16 * 32 + w.val / 16)
      = ((((n.val * 96 + k.val) * 16 + h.val % 16) * 16 + w.val % 16) * 32 + h.val / 16) * 32 + w.val / 16
    omega
  refine (broadcastInDim_apply _ _ _ _ (ix3 n (0 : Fin 1) (place h w)) fun a => ?_).trans
    (broadcastInDim_apply _ _ _ _ (ix2 n (place h w)) fun a => ?_)
  · match a with
    | ⟨0, _⟩ => rfl
    | ⟨1, _⟩ => rfl
    | ⟨2, _⟩ => rfl
  · match a with
    | ⟨0, _⟩ => rfl
    | ⟨1, _⟩ => rfl

/-- A mark is 0 or 1, so asking whether it exceeds 0 gives it back. -/
theorem mark_exceeds (s : Fin 1024 → EReal) (l : Fin 1024) :
    Scalar.select (FloatOps.cmpf (F := Ideal) (φ := .f32) .ogt (mark s l) (Scalar.ofBits .f32 0x00000000#32))
      (Scalar.ofBits (F := Ideal) .f32 0x3F800000#32) (Scalar.ofBits (F := Ideal) .f32 0x00000000#32) = mark s l := by
  have h0 : (Scalar.ofBits .f32 0x00000000#32 : Ideal .f32) = (0 : EReal) := Ideal.ofBits_zero_f32
  have h1 : (Scalar.ofBits .f32 0x3F800000#32 : Ideal .f32) = (1 : EReal) := Ideal.ofBits_one_f32
  unfold mark
  split
  · show Scalar.select (BitVec.ofBool (decide ((Scalar.ofBits .f32 0x00000000#32 : Ideal .f32) < (Scalar.ofBits .f32 0x00000000#32 : Ideal .f32)))) _ _ = _
    rw [decide_eq_false (lt_irrefl _)]
    rfl
  · show Scalar.select (BitVec.ofBool (decide ((Scalar.ofBits .f32 0x00000000#32 : Ideal .f32) < (Scalar.ofBits .f32 0x3F800000#32 : Ideal .f32)))) _ _ = _
    rw [decide_eq_true (by rw [h0, h1]; exact zero_lt_one)]
    rfl

section Whole

variable (x0 : FVec Ideal S2x96x512x512 .f32) (x1 : FVec Ideal S1x1x7x7 .f32) (x2 x3 x4 : FVec Ideal S1 .f32)
  (x5 : FVec Ideal S1x1x7x7 .f32) (x6 : FVec Ideal S1 .f32) (x7 : FVec Ideal S6x96 .f32) (x8 : FVec Ideal S6 .f32)
  (x9 : FVec Ideal S96x6 .f32) (x10 : FVec Ideal S96 .f32)

theorem marks_apply (b : Fin 2) (l : Fin 1024) :
    val_main_v196 (F := Ideal) x0 x1 x2 x3 x4 x5 x6 x7 x8 x9 x10 (ix2 b l)
      = mark (fun i => val_main_v176 (F := Ideal) x0 x1 x2 x3 x4 x5 x6 x7 x8 x9 x10 (ix2 b i)) l :=
  scattered_apply (val_main_v176 (F := Ideal) x0 x1 x2 x3 x4 x5 x6 x7 x8 x9 x10) b l

theorem spread_marks : val_main_v201 (F := Ideal) x0 x1 x2 x3 x4 x5 x6 x7 x8 x9 x10
    = spread (val_main_v196 (F := Ideal) x0 x1 x2 x3 x4 x5 x6 x7 x8 x9 x10) := rfl

/-- The reference's mask: every pixel holds its patch's mark. -/
theorem mask_apply (n : Fin 2) (k : Fin 96) (h w : Fin 512) :
    val_main_v205 (F := Ideal) x0 x1 x2 x3 x4 x5 x6 x7 x8 x9 x10 (ix4 n k h w)
      = mark (fun i => scores (F := Ideal) (pooled (F := Ideal) (Cert.KernelSide.energy x0)) (Cert.KernelSide.channelMeans x0)
          x1 x2 x3 x4 x5 x6 x7 x8 x9 x10 (ix2 n i)) (place h w) := by
  rw [← scores_eq]
  rw [val_main_v205_apply, val_main_v204_apply, val_main_v203_apply, spread_marks, spread_apply, marks_apply,
    val_main_v202_apply, val_main_call4_v0_apply, val_main_call4_v1_apply, val_main_cst_47_apply, val_main_cst_48_apply,
    val_main_cst_49_apply]
  exact mark_exceeds _ _

end Whole

end Cert.ReferenceSide

end
-- ==== Proof.lean ====
/-
  The certificate: the two programs run and leave their arguments alone, and at exact arithmetic the kernel's mask and
  the reference's mask are one array.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.KernelRun
public import proofs.«01_k».proof.Proof.KernelMask
public import proofs.«01_k».proof.Proof.ReferenceMask
public import Idealize.ShloMosaic.Lib.Quiescent

@[expose] public section

set_option maxRecDepth 16384

noncomputable section

namespace Cert.Proof

open Idealize.ShloMosaic Idealize.ShloMosaic.TcCoe Idealize.SL.Sem
open Cert.Scores Cert.KernelSide

/-- The reference's mask, where its arguments are the kernel's, is the kernel's mask. -/
theorem masks_agree (m : (ℓ : Loc KernelIdeal.nD KernelIdeal.τ KernelIdeal.sig) → Buf (Elt Ideal) ℓ) (c : Dev KernelIdeal.nD)
    (x0 : FVec Ideal ReferenceIdeal.S2x96x512x512 .f32) (x1 : FVec Ideal ReferenceIdeal.S1x1x7x7 .f32)
    (x2 x3 x4 : FVec Ideal ReferenceIdeal.S1 .f32) (x5 : FVec Ideal ReferenceIdeal.S1x1x7x7 .f32)
    (x6 : FVec Ideal ReferenceIdeal.S1 .f32) (x7 : FVec Ideal ReferenceIdeal.S6x96 .f32) (x8 : FVec Ideal ReferenceIdeal.S6 .f32)
    (x9 : FVec Ideal ReferenceIdeal.S96x6 .f32) (x10 : FVec Ideal ReferenceIdeal.S96 .f32)
    (h0 : x0 = arg m c KernelIdeal.main_arg0) (h1 : x1 = arg m c KernelIdeal.main_arg1) (h2 : x2 = arg m c KernelIdeal.main_arg2)
    (h3 : x3 = arg m c KernelIdeal.main_arg3) (h4 : x4 = arg m c KernelIdeal.main_arg4) (h5 : x5 = arg m c KernelIdeal.main_arg5)
    (h6 : x6 = arg m c KernelIdeal.main_arg6) (h7 : x7 = arg m c KernelIdeal.main_arg7) (h8 : x8 = arg m c KernelIdeal.main_arg8)
    (h9 : x9 = arg m c KernelIdeal.main_arg9) (h10 : x10 = arg m c KernelIdeal.main_arg10) :
    ReferenceIdeal.Read.val_main_v205 (F := Ideal) x0 x1 x2 x3 x4 x5 x6 x7 x8 x9 x10 = result m c := by
  subst h0 h1 h2 h3 h4 h5 h6 h7 h8 h9 h10
  funext p
  rw [ValueIdx.eq_ix4 p]
  exact ReferenceSide.mask_apply _ _ _ _ _ _ _ _ _ _ _ _ _ _ _

theorem claim : Cert.Claim := by
  refine ⟨Cert.Kernel.Gen.facts, Cert.KernelIdeal.Gen.facts, Cert.ReferenceIdeal.Gen.facts,
    fun m ρ _ => Cert.Kernel.Gen.frame m ρ, fun m ρ _ => Cert.KernelIdeal.Gen.frame m ρ, fun m ρ _ => ?_, trivial,
    fun m ρ m' ρ' _ same => ⟨result m, ?_, ?_⟩⟩
  · exact (θ_run _ _ _).mono (fun r h => ⟨fun c => (h c).2, sem_eq_zero_of_no_sems (by decide) r.2⟩)
      (ReferenceIdeal.Value.run (F := Ideal) m ρ)
  · exact (θ_run _ _ _).mono (fun r h c =>
      ⟨(h c _ (KernelIdeal.Gen.mem_uc KernelIdeal.main_v188 (by decide))).trans (W12_v188 m ρ c),
        (h c _ (KernelIdeal.Gen.mem_uc KernelIdeal.main_arg0 (by decide))).trans (KernelIdeal.Gen.W12_main_arg0 m ρ c),
        (h c _ (KernelIdeal.Gen.mem_uc KernelIdeal.main_arg1 (by decide))).trans (KernelIdeal.Gen.W12_main_arg1 m ρ c),
        (h c _ (KernelIdeal.Gen.mem_uc KernelIdeal.main_arg2 (by decide))).trans (KernelIdeal.Gen.W12_main_arg2 m ρ c),
        (h c _ (KernelIdeal.Gen.mem_uc KernelIdeal.main_arg3 (by decide))).trans (KernelIdeal.Gen.W12_main_arg3 m ρ c),
        (h c _ (KernelIdeal.Gen.mem_uc KernelIdeal.main_arg4 (by decide))).trans (KernelIdeal.Gen.W12_main_arg4 m ρ c),
        (h c _ (KernelIdeal.Gen.mem_uc KernelIdeal.main_arg5 (by decide))).trans (KernelIdeal.Gen.W12_main_arg5 m ρ c),
        (h c _ (KernelIdeal.Gen.mem_uc KernelIdeal.main_arg6 (by decide))).trans (KernelIdeal.Gen.W12_main_arg6 m ρ c),
        (h c _ (KernelIdeal.Gen.mem_uc KernelIdeal.main_arg7 (by decide))).trans (KernelIdeal.Gen.W12_main_arg7 m ρ c),
        (h c _ (KernelIdeal.Gen.mem_uc KernelIdeal.main_arg8 (by decide))).trans (KernelIdeal.Gen.W12_main_arg8 m ρ c),
        (h c _ (KernelIdeal.Gen.mem_uc KernelIdeal.main_arg9 (by decide))).trans (KernelIdeal.Gen.W12_main_arg9 m ρ c),
        (h c _ (KernelIdeal.Gen.mem_uc KernelIdeal.main_arg10 (by decide))).trans (KernelIdeal.Gen.W12_main_arg10 m ρ c)⟩)
      (run_all (F := Ideal) m ρ)
  · refine (θ_run _ _ _).mono (fun r h c => ⟨(h c).1.trans ?_, (h c).2⟩) (ReferenceIdeal.Value.run (F := Ideal) m' ρ')
    refine (ReferenceIdeal.Read.val_main_v205_eq (F := Ideal) (StableHlo.launchContents m' c)).trans ?_
    obtain ⟨h0, h1, h2, h3, h4, h5, h6, h7, h8, h9, h10⟩ := same c
    exact masks_agree m c _ _ _ _ _ _ _ _ _ _ _ h0 h1 h2 h3 h4 h5 h6 h7 h8 h9 h10

end Cert.Proof

end
